-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S2x2x512x256 : Shape := ⟨4, ![2, 2, 512, 256]⟩
abbrev S2x2x256x256 : Shape := ⟨4, ![2, 2, 256, 256]⟩
abbrev S4x2x2 : Shape := ⟨3, ![4, 2, 2]⟩
abbrev S_ : Shape := ⟨0, ![]⟩
abbrev S256x256 : Shape := ⟨2, ![256, 256]⟩
abbrev S512x256 : Shape := ⟨2, ![512, 256]⟩
abbrev S1x1x512x256 : Shape := ⟨4, ![1, 1, 512, 256]⟩
abbrev S1x1x1 : Shape := ⟨3, ![1, 1, 1]⟩
abbrev S1x1x256x256 : Shape := ⟨4, ![1, 1, 256, 256]⟩

abbrev nBuf : Space → Nat
  | .hbm => 3
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S1024x1024, .bf16⟩
  | .local _ .vmem, ⟨0, _⟩ => ⟨S1024x256, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .f32⟩
  | .local _ .vmem, ⟨4, _⟩ => ⟨S2x2x512x256, .bf16⟩
  | .local _ .vmem, ⟨5, _⟩ => ⟨S2x2x512x256, .bf16⟩
  | .local _ .vmem, ⟨6, _⟩ => ⟨S2x2x256x256, .bf16⟩
  | .local _ .vmem, ⟨7, _⟩ => ⟨S2x2x256x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let v41 : BitVec 32 := Scalar.subi c1_i32_22 v26
  let c512_i32 : BitVec 32 := 512#32
  let v42 : BitVec 32 := Scalar.muli v41 c512_i32
  let v43 : Index := Scalar.indexCast v42
  let c0_23 : Index := 0#32
  ![v43.toNat, 0]
def k0_dev3 (d0 : Dev nD) : Nat :=
  let c0_i32_39 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_38 : BitVec 32 := 1#32
  let v49 : BitVec 32 := Scalar.muli v3 c1_i32_38
  let v50 : BitVec 32 := Scalar.addi c0_i32_39 v49
  v50.toNat
def k0_off2 (d0 : Dev nD) : Fin 2 → Nat :=
  let c1_i32_50 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v67 : BitVec 32 := Scalar.subi c1_i32_50 v29
  let c512_i32_51 : BitVec 32 := 512#32
  let v68 : BitVec 32 := Scalar.muli v67 c512_i32_51
  let v69 : Index := Scalar.indexCast v68
  let c512_52 : Index := 512#32
  ![v69.toNat, 512]
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_66 : BitVec 32 := 1#32
  let v75 : BitVec 32 := Scalar.muli v4 c1_i32_66
  let v76 : BitVec 32 := Scalar.addi c0_i32_67 v75
  v76.toNat
def k0_off3 (d0 : Dev nD) : Fin 2 → Nat :=
  let c1_i32_78 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let v93 : BitVec 32 := Scalar.subi c1_i32_78 v26
  let c512_i32_79 : BitVec 32 := 512#32
  let v94 : BitVec 32 := Scalar.muli v93 c512_i32_79
  let v95 : Index := Scalar.indexCast v94
  let c256_80 : Index := 256#32
  ![v95.toNat, 256]
def k0_dev5 (d0 : Dev nD) : Nat :=
  let c0_i32_96 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_95 : BitVec 32 := 1#32
  let v101 : BitVec 32 := Scalar.muli v3 c1_i32_95
  let v102 : BitVec 32 := Scalar.addi c0_i32_96 v101
  v102.toNat
def k0_off4 (d0 : Dev nD) : Fin 2 → Nat :=
  let c1_i32_107 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v119 : BitVec 32 := Scalar.subi c1_i32_107 v29
  let c512_i32_108 : BitVec 32 := 512#32
  let v120 : BitVec 32 := Scalar.muli v119 c512_i32_108
  let v121 : Index := Scalar.indexCast v120
  let c768_109 : Index := 768#32
  ![v121.toNat, 768]
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_124 : BitVec 32 := 1#32
  let v127 : BitVec 32 := Scalar.muli v4 c1_i32_124
  let v128 : BitVec 32 := Scalar.addi c0_i32_125 v127
  v128.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let c512_i32_161 : BitVec 32 := 512#32
  let v151 : BitVec 32 := Scalar.muli v26 c512_i32_161
  let v152 : Index := Scalar.indexCast v151
  let c0_162 : Index := 0#32
  ![v152.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  let v162 : BitVec 32 := Scalar.xori v2 c1_i32_168
  let c256_i32 : BitVec 32 := 256#32
  let v163 : BitVec 32 := Scalar.muli v162 c256_i32
  let v164 : Index := Scalar.indexCast v163
  let c0_169 : Index := 0#32
  ![v164.toNat, 0]
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_184 : BitVec 32 := 1#32
  let v170 : BitVec 32 := Scalar.muli v4 c1_i32_184
  let v171 : BitVec 32 := Scalar.addi c0_i32_185 v170
  v171.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let c512_i32_221 : BitVec 32 := 512#32
  let v194 : BitVec 32 := Scalar.muli v29 c512_i32_221
  let v195 : Index := Scalar.indexCast v194
  let c512_222 : Index := 512#32
  ![v195.toNat, 512]
def k0_off8 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c1_i32_228 : BitVec 32 := 1#32
  let v205 : BitVec 32 := Scalar.xori v32 c1_i32_228
  let c256_i32_229 : BitVec 32 := 256#32
  let v206 : BitVec 32 := Scalar.muli v205 c256_i32_229
  let v207 : Index := Scalar.indexCast v206
  let c512_230 : Index := 512#32
  ![v207.toNat, 512]
def k0_dev8 (d0 : Dev nD) : Nat :=
  let c0_i32_246 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_245 : BitVec 32 := 1#32
  let v213 : BitVec 32 := Scalar.muli v3 c1_i32_245
  let v214 : BitVec 32 := Scalar.addi c0_i32_246 v213
  v214.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let c512_i32_282 : BitVec 32 := 512#32
  let v237 : BitVec 32 := Scalar.muli v26 c512_i32_282
  let v238 : Index := Scalar.indexCast v237
  let c256_283 : Index := 256#32
  ![v238.toNat, 256]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_289 : BitVec 32 := 1#32
  let v248 : BitVec 32 := Scalar.xori v2 c1_i32_289
  let c256_i32_290 : BitVec 32 := 256#32
  let v249 : BitVec 32 := Scalar.muli v248 c256_i32_290
  let v250 : Index := Scalar.indexCast v249
  let c256_291 : Index := 256#32
  ![v250.toNat, 256]
def k0_dev9 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_306 : BitVec 32 := 1#32
  let v256 : BitVec 32 := Scalar.muli v4 c1_i32_306
  let v257 : BitVec 32 := Scalar.addi c0_i32_307 v256
  v257.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let c512_i32_343 : BitVec 32 := 512#32
  let v280 : BitVec 32 := Scalar.muli v29 c512_i32_343
  let v281 : Index := Scalar.indexCast v280
  let c768_344 : Index := 768#32
  ![v281.toNat, 768]
def k0_off12 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c1_i32_350 : BitVec 32 := 1#32
  let v291 : BitVec 32 := Scalar.xori v32 c1_i32_350
  let c256_i32_351 : BitVec 32 := 256#32
  let v292 : BitVec 32 := Scalar.muli v291 c256_i32_351
  let v293 : Index := Scalar.indexCast v292
  let c768_352 : Index := 768#32
  ![v293.toNat, 768]
def k0_dev10 (d0 : Dev nD) : Nat :=
  let c0_i32_368 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_367 : BitVec 32 := 1#32
  let v299 : BitVec 32 := Scalar.muli v3 c1_i32_367
  let v300 : BitVec 32 := Scalar.addi c0_i32_368 v299
  v300.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_404 : BitVec 32 := 256#32
  let v323 : BitVec 32 := Scalar.muli v2 c256_i32_404
  let v324 : Index := Scalar.indexCast v323
  let c0_405 : Index := 0#32
  ![v324.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_404 : BitVec 32 := 256#32
  let v323 : BitVec 32 := Scalar.muli v2 c256_i32_404
  let c0_i32_420 : BitVec 32 := 0#32
  ![v323.toNat, 0]
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_418 : BitVec 32 := 1#32
  let v335 : BitVec 32 := Scalar.muli v4 c1_i32_418
  let v336 : BitVec 32 := Scalar.addi c0_i32_419 v335
  v336.toNat
def k0_off15 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c256_i32_453 : BitVec 32 := 256#32
  let v357 : BitVec 32 := Scalar.muli v32 c256_i32_453
  let v358 : Index := Scalar.indexCast v357
  let c512_454 : Index := 512#32
  ![v358.toNat, 512]
def k0_off16 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c256_i32_453 : BitVec 32 := 256#32
  let v357 : BitVec 32 := Scalar.muli v32 c256_i32_453
  let c512_i32_469 : BitVec 32 := 512#32
  ![v357.toNat, 512]
def k0_dev12 (d0 : Dev nD) : Nat :=
  let c0_i32_468 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_467 : BitVec 32 := 1#32
  let v369 : BitVec 32 := Scalar.muli v3 c1_i32_467
  let v370 : BitVec 32 := Scalar.addi c0_i32_468 v369
  v370.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_502 : BitVec 32 := 256#32
  let v391 : BitVec 32 := Scalar.muli v2 c256_i32_502
  let v392 : Index := Scalar.indexCast v391
  let c256_503 : Index := 256#32
  ![v392.toNat, 256]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_502 : BitVec 32 := 256#32
  let v391 : BitVec 32 := Scalar.muli v2 c256_i32_502
  let c256_i32_518 : BitVec 32 := 256#32
  ![v391.toNat, 256]
def k0_dev13 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_516 : BitVec 32 := 1#32
  let v403 : BitVec 32 := Scalar.muli v4 c1_i32_516
  let v404 : BitVec 32 := Scalar.addi c0_i32_517 v403
  v404.toNat
def k0_off19 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c256_i32_551 : BitVec 32 := 256#32
  let v425 : BitVec 32 := Scalar.muli v32 c256_i32_551
  let v426 : Index := Scalar.indexCast v425
  let c768_552 : Index := 768#32
  ![v426.toNat, 768]
def k0_off20 (d0 : Dev nD) : Fin 2 → Nat :=
  let c2_i32_15 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let v30 : BitVec 32 := Scalar.muli c2_i32_15 v29
  let c1_i32_16 : BitVec 32 := 1#32
  let v31 : BitVec 32 := Scalar.shrsi v2 c1_i32_16
  let v32 : BitVec 32 := Scalar.addi v30 v31
  let c256_i32_551 : BitVec 32 := 256#32
  let v425 : BitVec 32 := Scalar.muli v32 c256_i32_551
  let c768_i32 : BitVec 32 := 768#32
  ![v425.toNat, 768]
def k0_dev14 (d0 : Dev nD) : Nat :=
  let c0_i32_566 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_565 : BitVec 32 := 1#32
  let v437 : BitVec 32 := Scalar.muli v3 c1_i32_565
  let v438 : BitVec 32 := Scalar.addi c0_i32_566 v437
  v438.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let c512_i32_587 : BitVec 32 := 512#32
  let v455 : BitVec 32 := Scalar.muli v26 c512_i32_587
  let c0_i32_596 : BitVec 32 := 0#32
  ![v455.toNat, 0]
def k0_dev15 (d0 : Dev nD) : Nat :=
  let c0_i32_595 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_594 : BitVec 32 := 1#32
  let v456 : BitVec 32 := Scalar.muli v3 c1_i32_594
  let v457 : BitVec 32 := Scalar.addi c0_i32_595 v456
  v457.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let c512_i32_617 : BitVec 32 := 512#32
  let v474 : BitVec 32 := Scalar.muli v29 c512_i32_617
  let c512_i32_626 : BitVec 32 := 512#32
  ![v474.toNat, 512]
def k0_dev16 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_624 : BitVec 32 := 1#32
  let v475 : BitVec 32 := Scalar.muli v4 c1_i32_624
  let v476 : BitVec 32 := Scalar.addi c0_i32_625 v475
  v476.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v11 : BitVec 1 := Scalar.cmpi .sgt v2 c0_i32_7
  let v12 : BitVec 32 := Scalar.extui v11
  let c0_i32_8 : BitVec 32 := 0#32
  let v13 : BitVec 1 := Scalar.cmpi .slt v2 c0_i32_8
  let v14 : BitVec 32 := Scalar.extui v13
  let v15 : BitVec 32 := Scalar.subi v12 v14
  let c2_i32_6 : BitVec 32 := 2#32
  let c0_i32_9 : BitVec 32 := 0#32
  let v16 : BitVec 1 := Scalar.cmpi .sgt c2_i32_6 c0_i32_9
  let v17 : BitVec 32 := Scalar.extui v16
  let c0_i32_10 : BitVec 32 := 0#32
  let v18 : BitVec 1 := Scalar.cmpi .slt c2_i32_6 c0_i32_10
  let v19 : BitVec 32 := Scalar.extui v18
  let v20 : BitVec 32 := Scalar.subi v17 v19
  let v21 : BitVec 1 := Scalar.cmpi .ne v15 v20
  let v22 : BitVec 32 := Scalar.remsi v2 c2_i32_6
  let c0_i32_11 : BitVec 32 := 0#32
  let v23 : BitVec 1 := Scalar.cmpi .ne v22 c0_i32_11
  let v24 : BitVec 1 := Scalar.andi v21 v23
  let v10 : BitVec 32 := Scalar.divsi v2 c2_i32_6
  let c1_i32_12 : BitVec 32 := 1#32
  let v25 : BitVec 32 := Scalar.subi v10 c1_i32_12
  let v26 : BitVec 32 := Scalar.select v24 v25 v10
  let c512_i32_647 : BitVec 32 := 512#32
  let v493 : BitVec 32 := Scalar.muli v26 c512_i32_647
  let c256_i32_656 : BitVec 32 := 256#32
  ![v493.toNat, 256]
def k0_dev17 (d0 : Dev nD) : Nat :=
  let c0_i32_655 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_654 : BitVec 32 := 1#32
  let v494 : BitVec 32 := Scalar.muli v3 c1_i32_654
  let v495 : BitVec 32 := Scalar.addi c0_i32_655 v494
  v495.toNat
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.shrsi v2 c1_i32_13
  let v28 : BitVec 32 := Scalar.xori v2 v27
  let c1_i32_14 : BitVec 32 := 1#32
  let v29 : BitVec 32 := Scalar.andi v28 c1_i32_14
  let c512_i32_677 : BitVec 32 := 512#32
  let v512 : BitVec 32 := Scalar.muli v29 c512_i32_677
  let c768_i32_686 : BitVec 32 := 768#32
  ![v512.toNat, 768]
def k0_dev18 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_684 : BitVec 32 := 1#32
  let v513 : BitVec 32 := Scalar.muli v4 c1_i32_684
  let v514 : BitVec 32 := Scalar.addi c0_i32_685 v513
  v514.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Contents.lean ====
/-
# `Contents`: who holds what, block by block

The four devices exchange in pairs. On each device the product of its two blocks is cut into four column
blocks of 256 columns, named by `(s, j)`: stream `s` (which of the two pairings comes first) and `j`.
Phase 0 sends the half of the rows the other side keeps, phase 1 a quarter of the rows, phase 2 the finished
quarter, phase 3 the finished half. This file fixes the partners, the rows each device keeps, and the contents
every buffer holds at each point of the run, as functions of the launch memory.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.ValueIdxCore
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Partners and rows -/

/-- The partner of device `c` in phase `p` of stream `s`: `3 - c`, or the neighbour differing in the last bit. -/
def q (p : Fin 4) (s : Fin 2) (c : Dev nD) : Dev nD :=
  if (p = 0 ∨ p = 3) ↔ s = 0 then (![3, 2, 1, 0] : Fin 4 → Fin 4) c else (![1, 0, 3, 2] : Fin 4 → Fin 4) c

/-- The half of the rows (0 or 1) device `c` keeps in stream `s`. -/
def hh (s : Fin 2) (c : Dev nD) : ℕ := (![![0, 0, 1, 1], ![0, 1, 1, 0]] : Fin 2 → Fin 4 → ℕ) s c

/-- The quarter of the rows (0 to 3) device `c` finishes in stream `s`. -/
def qq (s : Fin 2) (c : Dev nD) : ℕ := (![![0, 1, 2, 3], ![0, 2, 3, 1]] : Fin 2 → Fin 4 → ℕ) s c

/-- The device that finishes quarter `t` of the rows in stream `s`. -/
def ow (s : Fin 2) (t : Fin 4) : Dev nD := (![![0, 1, 2, 3], ![0, 3, 1, 2]] : Fin 2 → Fin 4 → Fin 4) s t

/-- Being partners is mutual. -/
theorem q_q (p : Fin 4) (s : Fin 2) (c : Dev nD) : q p s (q p s c) = c := by revert p s c; decide
/-- A half is 0 or 1. -/
theorem hh_lt (s : Fin 2) (c : Dev nD) : hh s c < 2 := by revert s c; decide
/-- A quarter is 0 to 3. -/
theorem qq_lt (s : Fin 2) (c : Dev nD) : qq s c < 4 := by revert s c; decide
/-- The quarter a device finishes lies in the half it keeps. -/
theorem qq_half (s : Fin 2) (c : Dev nD) : qq s c / 2 = hh s c := by revert s c; decide
/-- The phase 1 partner finishes the other quarter of the same half. -/
theorem qq_sib (s : Fin 2) (c : Dev nD) : qq s (q 1 s c) = 2 * hh s c + (1 - qq s c % 2) := by revert s c; decide
/-- So does the phase 2 partner. -/
theorem qq_sib2 (s : Fin 2) (c : Dev nD) : qq s (q 2 s c) = 2 * hh s c + (1 - qq s c % 2) := by revert s c; decide
/-- The phase 1 partner keeps the same half. -/
theorem hh_q1 (s : Fin 2) (c : Dev nD) : hh s (q 1 s c) = hh s c := by revert s c; decide
/-- The phase 0 partner keeps the other half. -/
theorem hh_q0 (s : Fin 2) (c : Dev nD) : hh s (q 0 s c) = 1 - hh s c := by revert s c; decide
/-- So does the phase 3 partner. -/
theorem hh_q3 (s : Fin 2) (c : Dev nD) : hh s (q 3 s c) = 1 - hh s c := by revert s c; decide
/-- Device `c` is the one that finishes its quarter. -/
theorem ow_qq (s : Fin 2) (c : Dev nD) (h : qq s c < 4) : ow s ⟨qq s c, h⟩ = c := by revert s c; decide
/-- Phase 2 goes to the partner of phase 1. -/
theorem q_two (s : Fin 2) (c : Dev nD) : q 2 s c = q 1 s c := by revert s c; decide
/-- Phase 3 goes to the partner of phase 0. -/
theorem q_three (s : Fin 2) (c : Dev nD) : q 3 s c = q 0 s c := by revert s c; decide

/-! ## Blocks of the buffers -/

/-- The first column of block `(s, j)`. -/
def col (s j : Fin 2) : ℕ := 256 * (2 * s.val + j.val)
/-- Every block starts at column 768 or before. -/
theorem col_le (s j : Fin 2) : col s j ≤ 768 := by revert s j; decide

/-- The index at row `a`, column `b` of a 1024 by 1024 buffer. -/
def at2 (a b : ℕ) : S1024x1024.Idx := ix2 ⟨a % 1024, Nat.mod_lt _ (by decide)⟩ ⟨b % 1024, Nat.mod_lt _ (by decide)⟩

/-- The `h` by 256 block of `Z` at row `r0`, column `c0`. -/
def blk {α : Type} (h r0 c0 : ℕ) (Z : S1024x1024.Idx → α) : (⟨2, ![h, 256]⟩ : Shape).Idx → α :=
  fun t => Z (at2 (r0 + (t 0 : ℕ)) (c0 + (t 1 : ℕ)))

/-- The 256 by 256 block of `W` at column `c0`. -/
def wblk {α : Type} (c0 : ℕ) (W : S256x1024.Idx → α) : S256x256.Idx → α :=
  fun t => W (ix2 (t 0) ⟨(c0 + (t 1 : ℕ)) % 1024, Nat.mod_lt _ (by decide)⟩)

/-- Slot `(s, j)` of a buffer of four slots of `h` by 256. -/
def slotOf {α : Type} (h : ℕ) (s j : Fin 2) (R : (⟨4, ![2, 2, h, 256]⟩ : Shape).Idx → α) : (⟨4, ![1, 1, h, 256]⟩ : Shape).Idx → α :=
  fun t => R (ix4 s j (t 2) (t 3))

/-- The stream of column `b`. -/
def strm (b : ℕ) : Fin 2 := ⟨b / 512 % 2, Nat.mod_lt _ (by decide)⟩
/-- The second block coordinate of column `b`. -/
def sub (b : ℕ) : Fin 2 := ⟨b / 256 % 2, Nat.mod_lt _ (by decide)⟩

/-- A column of block `(s, j)` is in stream `s`. -/
theorem strm_col (s j : Fin 2) (b : ℕ) (h : col s j ≤ b ∧ b < col s j + 256) : strm b = s := by
  unfold strm col at *; apply Fin.ext; have := s.isLt; have := j.isLt; show b / 512 % 2 = s.val; omega
/-- A column of block `(s, j)` has second block coordinate `j`. -/
theorem sub_col (s j : Fin 2) (b : ℕ) (h : col s j ≤ b ∧ b < col s j + 256) : sub b = j := by
  unfold sub col at *; apply Fin.ext; have := s.isLt; have := j.isLt; show b / 256 % 2 = j.val; omega

/-! ## Contents -/

/-- Device `c`'s block of `x`, as staged for the kernel. -/
def xC (c : Dev nD) : (cc0_stg0_0 : Ref sig .tc).ty.Contents (Elt F) :=
  (win0_0.blk (0 : Fin 1)).view.read (Elt F) ((s₀ m ρ).mem ((c : Thread nD τ).loc main_arg0))
/-- Device `c`'s block of `w_mat`, as staged for the kernel. -/
def wC (c : Dev nD) : (cc0_stg1_0 : Ref sig .tc).ty.Contents (Elt F) :=
  (win0_1.blk (0 : Fin 1)).view.read (Elt F) ((s₀ m ρ).mem ((c : Thread nD τ).loc main_arg1))

/-- Device `c`'s own product, all four column blocks. -/
def D (c : Dev nD) : S1024x1024.Idx → Elt F .f32 := fun y =>
  k0_pay1 (F := F) (xC m ρ c) (wblk (col (strm (y 1)) (sub (y 1))) (wC m ρ c)) (ix2 (y 0) ⟨(y 1 : ℕ) % 256, Nat.mod_lt _ (by decide)⟩)

/-- What device `c` sends in phase 0: the half of its product its partner keeps, rounded. -/
def A1 (c : Dev nD) : S2x2x512x256.Idx → Elt F .bf16 := fun y =>
  k0_pay2 (F := F) (blk 512 (512 * (1 - hh (y 0) c)) (col (y 0) (y 1)) (D m ρ c)) (ix4 0 0 (y 2) (y 3))
/-- What device `c` receives in phase 0. -/
def B1 (c : Dev nD) : S2x2x512x256.Idx → Elt F .bf16 := fun y => A1 m ρ (q 0 (y 0) c) y

/-- The kept half after phase 0: own product plus what was received. -/
def Z (c : Dev nD) : S1024x1024.Idx → Elt F .f32 := fun y =>
  k0_pay12 (F := F) (blk 512 (512 * hh (strm (y 1)) c) (col (strm (y 1)) (sub (y 1))) (D m ρ c)) (slotOf 512 (strm (y 1)) (sub (y 1)) (B1 m ρ c))
    (ix2 ⟨(y 0 : ℕ) % 512, Nat.mod_lt _ (by decide)⟩ ⟨(y 1 : ℕ) % 256, Nat.mod_lt _ (by decide)⟩)

/-- What device `c` sends in phase 1: the quarter its partner finishes, rounded. -/
def A2 (c : Dev nD) : S2x2x256x256.Idx → Elt F .bf16 := fun y =>
  k0_pay11 (F := F) (blk 256 (256 * qq (y 0) (q 1 (y 0) c)) (col (y 0) (y 1)) (Z m ρ c)) (ix4 0 0 (y 2) (y 3))
/-- What device `c` receives in phase 1. -/
def B2 (c : Dev nD) : S2x2x256x256.Idx → Elt F .bf16 := fun y => A2 m ρ (q 1 (y 0) c) y

/-- The finished result, the same on every device: each quarter of the rows as the device that finishes it computes it. -/
def OUT : S1024x1024.Idx → Elt F .bf16 := fun y =>
  k0_pay19 (F := F)
    (blk 256 (256 * ((y 0 : ℕ) / 256)) (col (strm (y 1)) (sub (y 1))) (Z m ρ (ow (strm (y 1)) ⟨(y 0 : ℕ) / 256 % 4, Nat.mod_lt _ (by decide)⟩)))
    (slotOf 256 (strm (y 1)) (sub (y 1)) (B2 m ρ (ow (strm (y 1)) ⟨(y 0 : ℕ) / 256 % 4, Nat.mod_lt _ (by decide)⟩)))
    (ix2 ⟨(y 0 : ℕ) % 256, Nat.mod_lt _ (by decide)⟩ ⟨(y 1 : ℕ) % 256, Nat.mod_lt _ (by decide)⟩)

/-! ## Regions -/

/-- The `h` rows from `r0` of the 256 columns from `c0`. -/
def box (r0 h c0 : ℕ) : Finset S1024x1024.Idx :=
  Finset.univ.filter fun y => (r0 ≤ (y 0 : ℕ) ∧ (y 0 : ℕ) < r0 + h) ∧ (c0 ≤ (y 1 : ℕ) ∧ (y 1 : ℕ) < c0 + 256)

/-- An index is in a box when its row and its column are in range. -/
theorem mem_box {r0 h c0 : ℕ} {y : S1024x1024.Idx} :
    y ∈ box r0 h c0 ↔ (r0 ≤ (y 0 : ℕ) ∧ (y 0 : ℕ) < r0 + h) ∧ (c0 ≤ (y 1 : ℕ) ∧ (y 1 : ℕ) < c0 + 256) := by
  simp [box]

/-- The elements of slot `(s, j)`. -/
def slot (h : ℕ) (s j : Fin 2) : Finset (⟨4, ![2, 2, h, 256]⟩ : Shape).Idx :=
  Finset.univ.filter fun y => (y 0 : ℕ) = s.val ∧ (y 1 : ℕ) = j.val

/-- An index is in slot `(s, j)` when its first two coordinates are `s` and `j`. -/
theorem mem_slot {h : ℕ} {s j : Fin 2} {y : (⟨4, ![2, 2, h, 256]⟩ : Shape).Idx} : y ∈ slot h s j ↔ (y 0 : ℕ) = s.val ∧ (y 1 : ℕ) = j.val := by
  simp [slot]

/-- The rectangle of `h` by 256 at row `r0`, column `c0` covers that box. -/
theorem set_box {off : Fin 2 → ℕ} {h r0 c0 : ℕ} (hoff : off = ![r0, c0]) (inb) :
    (Rect.unit (s := S1024x1024) off ![h, 256] inb).set = box r0 h c0 := by
  subst hoff; ext y; rw [Rect.mem_set_unit, mem_box]; exact Fin.forall_fin_two

/-- The rectangle of one slot covers that slot. -/
theorem set_slot {off : Fin 4 → ℕ} {h : ℕ} {s j : Fin 2} (hoff : off = ![s.val, j.val, 0, 0]) (inb) :
    (Rect.unit (s := ⟨4, ![2, 2, h, 256]⟩) off ![1, 1, h, 256] inb).set = slot h s j := by
  subst hoff; ext y; rw [Rect.mem_set_unit, mem_slot]
  have h2 : (y 2 : ℕ) < h := (y 2).isLt
  have h3 : (y 3 : ℕ) < 256 := (y 3).isLt
  constructor
  · intro H
    have h0 := H 0; have h1 := H 1
    simp only [Matrix.cons_val_zero, Matrix.cons_val_one] at h0 h1
    exact ⟨by omega, by omega⟩
  · rintro ⟨e0, e1⟩ a
    fin_cases a
    · show s.val ≤ (y 0 : ℕ) ∧ (y 0 : ℕ) < s.val + 1; omega
    · show j.val ≤ (y 1 : ℕ) ∧ (y 1 : ℕ) < j.val + 1; omega
    · show 0 ≤ (y 2 : ℕ) ∧ (y 2 : ℕ) < 0 + h; omega
    · show 0 ≤ (y 3 : ℕ) ∧ (y 3 : ℕ) < 0 + 256; omega

end Cert.Exchange

end
-- ==== Proof.Protocol.lean ====
/-
# `Protocol`: the handshake and the sixteen exchanges

Every device signals the runtime's barrier semaphore of both partners and waits for two units on its own. With
its signal it hands the partner every region that partner will later write on it. Then for each of the sixteen
exchanges `(phase, stream, j)` it copies a region of its own to its partner: one send semaphore and one receive
semaphore per exchange, each used in one round by one copy. The receive side's payload is the region filled
with the partner's contents, the send side's payload the source region back.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part and the exchange's part -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Exchanges, semaphores, cells -/

/-- An exchange: phase, stream, second block coordinate. -/
abbrev Item : Type := Fin 4 × Fin 2 × Fin 2

/-- The exchange's number in the semaphore arrays, and the exchange of a number. -/
def num (k : Item) : ℕ := 4 * k.1.val + 2 * k.2.1.val + k.2.2.val
/-- The exchange numbered `n`. -/
def itemOf (n : ℕ) : Item :=
  (⟨n / 4 % 4, Nat.mod_lt _ (by decide)⟩, ⟨n / 2 % 2, Nat.mod_lt _ (by decide)⟩, ⟨n % 2, Nat.mod_lt _ (by decide)⟩)
/-- There are sixteen exchanges. -/
theorem num_lt (k : Item) : num k < 16 := by revert k; decide
/-- The number of an exchange determines it. -/
theorem itemOf_num (k : Item) : itemOf (num k) = k := by revert k; decide

/-- The runtime's barrier semaphore, and the send and receive semaphores of exchange `k`. -/
abbrev barS : Sem sig := (SemArray.scalar (sig.barrier 0 rfl) : Sems sig S_).sem
/-- The send semaphore of exchange `k`. -/
def sendS (k : Item) : DmaSem sig := ⟨3 + num k, by have := num_lt k; show 3 + num k < 35; omega⟩
/-- The receive semaphore of exchange `k`. -/
def recvS (k : Item) : DmaSem sig := ⟨19 + num k, by have := num_lt k; show 19 + num k < 35; omega⟩

abbrev barCell (c : Dev nD) : GSem nD τ sig := ((c : Thread nD τ), .reg barS)
abbrev sendCell (c : Dev nD) (k : Item) : GSem nD τ sig := ((c : Thread nD τ), .dma (sendS k))
abbrev recvCell (c : Dev nD) (k : Item) : GSem nD τ sig := ((c : Thread nD τ), .dma (recvS k))

/-- Which of the two partners exchange `k` goes to: `false` for `3 - c`, `true` for the neighbour. -/
def via (k : Item) : Bool := !decide ((k.1 = 0 ∨ k.1 = 3) ↔ k.2.1 = 0)
/-- The two partners of device `c`: `3 - c` for `false`, the neighbour for `true`. -/
def nb (b : Bool) (c : Dev nD) : Dev nD := if b then (![1, 0, 3, 2] : Fin 4 → Fin 4) c else (![3, 2, 1, 0] : Fin 4 → Fin 4) c
/-- Being partners is mutual. -/
theorem nb_nb (b : Bool) (c : Dev nD) : nb b (nb b c) = c := by revert b c; decide
/-- The partner of `c` in exchange `k`. -/
abbrev qk (k : Item) (c : Dev nD) : Dev nD := q k.1 k.2.1 c
/-- Exchange `k` goes to the partner `via k` names. -/
theorem nb_via (k : Item) (c : Dev nD) : nb (via k) c = qk k c := by revert k c; decide

/-- The units a copy of a 512 by 256 block brings. -/
def cred512 : ℕ := ((Memref.whole cc0_scratch2).slice (Rect.unit (s := S2x2x512x256) ![0, 0, 0, 0] S1x1x512x256.size inb_S2x2x512x256_S1x1x512x256_0_0_0_0)
  (fun _ => rfl) |>.squeeze S512x256 squeezes_S1x1x512x256_S512x256).view.dmaCredit
/-- The units a copy of a 256 by 256 block brings. -/
def cred256 : ℕ := ((Memref.whole cc0_scratch4).slice (Rect.unit (s := S2x2x256x256) ![0, 0, 0, 0] S1x1x256x256.size inb_S2x2x256x256_S1x1x256x256_0_0_0_0)
  (fun _ => rfl) |>.squeeze S256x256 squeezes_S1x1x256x256_S256x256).view.dmaCredit
/-- A copy of a 512 by 256 block brings some units. -/
theorem cred512_pos : 0 < cred512 := View.dmaCredit_pos _ (by decide)
/-- A copy of a 256 by 256 block brings some units. -/
theorem cred256_pos : 0 < cred256 := View.dmaCredit_pos _ (by decide)
/-- The units a copy in phase `p` brings. -/
def units (p : Fin 4) : ℕ := if p = 0 ∨ p = 3 then cred512 else cred256
/-- Every copy brings some units. -/
theorem units_pos (p : Fin 4) : 0 < units p := by unfold units; split; exacts [cred512_pos, cred256_pos]

/-! ## What is handed over -/

/-- Region `S` of buffer `b` of device `c`, holding `f` there. -/
def pts (c : Dev nD) (b : Ref sig .tc) (S : Finset (Idx ((c : Thread nD τ).loc b))) (f : Buf (Elt F) ((c : Thread nD τ).loc b)) : sProp 𝕄 :=
  ((c : Thread nD τ).loc b) ↦[S]{fullShare} f
/-- Region `S` of buffer `b` of device `c`, holding anything. -/
def ptsEx (c : Dev nD) (b : Ref sig .tc) (S : Finset (Idx ((c : Thread nD τ).loc b))) : sProp 𝕄 := iprop(∃ f, pts c b S f)

omit [FloatOps F] in
instance pts_storable (c : Dev nD) (b S f) : BI.Storable (upEmb : UEmb _ 𝕄) (pts (F := F) c b S f) := by unfold pts; infer_instance
omit [FloatOps F] in
instance ptsEx_storable (c : Dev nD) (b S) : BI.Storable (upEmb : UEmb _ 𝕄) (ptsEx (F := F) c b S) := by unfold ptsEx; infer_instance

/-- The region of device `c` that exchange `k` writes, before the copy. -/
def landing (c : Dev nD) (k : Item) : sProp 𝕄 := match k.1 with
  | 0 => ptsEx c cc0_scratch2 (slot 512 k.2.1 k.2.2)
  | 1 => ptsEx c cc0_scratch4 (slot 256 k.2.1 k.2.2)
  | 2 => ptsEx c cc0_stg2_0 (box (256 * qq k.2.1 (q 2 k.2.1 c)) 256 (col k.2.1 k.2.2))
  | 3 => ptsEx c cc0_stg2_0 (box (512 * hh k.2.1 (q 3 k.2.1 c)) 512 (col k.2.1 k.2.2))

/-- The same region after the copy. -/
def landed (c : Dev nD) (k : Item) : sProp 𝕄 := match k.1 with
  | 0 => pts c cc0_scratch2 (slot 512 k.2.1 k.2.2) (B1 m ρ c)
  | 1 => pts c cc0_scratch4 (slot 256 k.2.1 k.2.2) (B2 m ρ c)
  | 2 => pts c cc0_stg2_0 (box (256 * qq k.2.1 (q 2 k.2.1 c)) 256 (col k.2.1 k.2.2)) (OUT m ρ)
  | 3 => pts c cc0_stg2_0 (box (512 * hh k.2.1 (q 3 k.2.1 c)) 512 (col k.2.1 k.2.2)) (OUT m ρ)

/-- The region of device `c` that exchange `k` copies out of. -/
def source (c : Dev nD) (k : Item) : sProp 𝕄 := match k.1 with
  | 0 => pts c cc0_scratch1 (slot 512 k.2.1 k.2.2) (A1 m ρ c)
  | 1 => pts c cc0_scratch3 (slot 256 k.2.1 k.2.2) (A2 m ρ c)
  | 2 => pts c cc0_stg2_0 (box (256 * qq k.2.1 c) 256 (col k.2.1 k.2.2)) (OUT m ρ)
  | 3 => pts c cc0_stg2_0 (box (512 * hh k.2.1 c) 512 (col k.2.1 k.2.2)) (OUT m ρ)

omit [FloatOps F] in
instance landing_storable (c : Dev nD) (k : Item) : BI.Storable (upEmb : UEmb _ 𝕄) (landing (F := F) c k) := by
  obtain ⟨p, s, j⟩ := k; fin_cases p <;> exact ptsEx_storable _ _ _
instance landed_storable (c : Dev nD) (k : Item) : BI.Storable (upEmb : UEmb _ 𝕄) (landed (F := F) m ρ c k) := by
  obtain ⟨p, s, j⟩ := k; fin_cases p <;> exact pts_storable _ _ _ _
instance source_storable (c : Dev nD) (k : Item) : BI.Storable (upEmb : UEmb _ 𝕄) (source (F := F) m ρ c k) := by
  obtain ⟨p, s, j⟩ := k; fin_cases p <;> exact pts_storable _ _ _ _

/-- What partner `nb d c`'s signal hands device `c`: every region of that partner `c` will write. -/
def barPay (c : Dev nD) (d : Bool) : sProp 𝕄 := bigSep (Finset.univ.filter fun k : Item => via k = d) fun k => landing (qk k c) k

/-! ## The schedule -/

/-- One round, round 0: a barrier cell has one duty of one unit per partner, a send or receive cell one duty of the copy's units. -/
def rd : Rounds.Schedule (GSem nD τ sig) Bool 𝕄 where
  duties g r := if r = 0 then (match g.2 with | .reg _ => Finset.univ | .dma _ => {false}) else ∅
  unitless _ := False
  amount g _ _ := match g.2 with
    | .reg _ => 1
    | .dma x => units (itemOf (if x.val < 19 then x.val - 3 else x.val - 19)).1
  payload g _ d := match g.2 with
    | .reg _ => barPay g.1.1 d
    | .dma x => if x.val < 19 then source m ρ g.1.1 (itemOf (x.val - 3)) else landed m ρ g.1.1 (itemOf (x.val - 19))
  amount_pos g _ _ _ := by
    rcases g with ⟨t, x | x⟩
    · exact Nat.one_pos
    · exact units_pos _

instance rd_payload_storable (g : GSem nD τ sig) (r : ℕ) (d : Bool) :
    BI.Storable (upEmb : UEmb _ 𝕄) ((rd (F := F) m ρ).payload g r d) := by
  rcases g with ⟨t, x | x⟩
  · show BI.Storable upEmb (barPay (F := F) t.1 d); unfold barPay; infer_instance
  · show BI.Storable upEmb (if x.val < 19 then source (F := F) m ρ t.1 (itemOf (x.val - 3)) else landed m ρ t.1 (itemOf (x.val - 19)))
    split <;> infer_instance

section Sched
variable (c : Dev nD) (k : Item)

/-- A barrier cell has one duty per partner. -/
theorem duties_bar : (rd (F := F) m ρ).duties (barCell c) 0 = Finset.univ := rfl
/-- A send cell has one duty. -/
theorem duties_send : (rd (F := F) m ρ).duties (sendCell c k) 0 = {false} := rfl
/-- A receive cell has one duty. -/
theorem duties_recv : (rd (F := F) m ρ).duties (recvCell c k) 0 = {false} := rfl
/-- After round 0 there are no duties. -/
theorem duties_later (g : GSem nD τ sig) : ∀ r, 1 ≤ r → (rd (F := F) m ρ).duties g r = ∅ :=
  fun r hr => if_neg (by omega)

/-- A barrier duty is one unit. -/
theorem amount_bar (d : Bool) : (rd (F := F) m ρ).amount (barCell c) 0 d = 1 := rfl
/-- A send duty is the units of the copy. -/
theorem amount_send (d : Bool) : (rd (F := F) m ρ).amount (sendCell c k) 0 d = units k.1 := by
  show units (itemOf (if 3 + num k < 19 then 3 + num k - 3 else 3 + num k - 19)).1 = _
  rw [if_pos (by have := num_lt k; omega), Nat.add_sub_cancel_left, itemOf_num]
/-- A receive duty is the units of the copy. -/
theorem amount_recv (d : Bool) : (rd (F := F) m ρ).amount (recvCell c k) 0 d = units k.1 := by
  show units (itemOf (if 19 + num k < 19 then 19 + num k - 3 else 19 + num k - 19)).1 = _
  rw [if_neg (by omega), Nat.add_sub_cancel_left, itemOf_num]

/-- A barrier cell collects two units. -/
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- A send cell collects the units of one copy. -/
theorem expect_send : (rd (F := F) m ρ).expect (sendCell c k) 0 = units k.1 := by
  unfold Schedule.expect Schedule.amountOf; rw [duties_send, Finset.sum_singleton, amount_send]
/-- A receive cell collects the units of one copy. -/
theorem expect_recv : (rd (F := F) m ρ).expect (recvCell c k) 0 = units k.1 := by
  unfold Schedule.expect Schedule.amountOf; rw [duties_recv, Finset.sum_singleton, amount_recv]

/-- A barrier duty hands over the regions the signalled device will write. -/
theorem payload_bar (d : Bool) : (rd (F := F) m ρ).payload (barCell c) 0 d = barPay c d := rfl
/-- A send duty hands back the region copied out of. -/
theorem payload_send (d : Bool) : (rd (F := F) m ρ).payload (sendCell c k) 0 d = source m ρ c k := by
  show (if 3 + num k < 19 then source m ρ c (itemOf (3 + num k - 3)) else landed m ρ c (itemOf (3 + num k - 19))) = _
  rw [if_pos (by have := num_lt k; omega), Nat.add_sub_cancel_left, itemOf_num]
/-- A receive duty hands over the region the copy wrote. -/
theorem payload_recv (d : Bool) : (rd (F := F) m ρ).payload (recvCell c k) 0 d = landed m ρ c k := by
  show (if 19 + num k < 19 then source m ρ c (itemOf (19 + num k - 3)) else landed m ρ c (itemOf (19 + num k - 19))) = _
  rw [if_neg (by omega), Nat.add_sub_cancel_left, itemOf_num]

/-- What the barrier wait collects: every region device `c` will write, on its partners. -/
theorem rest_bar : bigSep ((rd (F := F) m ρ).duties (barCell c) 0 \ ∅) (fun d => (rd (F := F) m ρ).payload (barCell c) 0 d)
    = bigSep Finset.univ fun k : Item => landing (F := F) (qk k c) k := by
  rw [Finset.sdiff_empty, duties_bar, bigSep_univ_eq_bigSepL [false, true] (by decide) (by decide), bigSepL_cons_cons, bigSepL_singleton,
    payload_bar, payload_bar]
  unfold barPay
  rw [← bigSep_union (by rw [Finset.disjoint_filter]; intro k _ h; rw [h]; decide)]
  congr 1
  ext k; cases h : via k <;> simp [h]
/-- What a send wait collects: the region copied out of. -/
theorem rest_send : bigSep ((rd (F := F) m ρ).duties (sendCell c k) 0 \ ∅) (fun d => (rd (F := F) m ρ).payload (sendCell c k) 0 d) = source m ρ c k := by
  rw [Finset.sdiff_empty, duties_send, bigSep_singleton, payload_send]
/-- What a receive wait collects: the region the copy wrote. -/
theorem rest_recv : bigSep ((rd (F := F) m ρ).duties (recvCell c k) 0 \ ∅) (fun d => (rd (F := F) m ρ).payload (recvCell c k) 0 d) = landed m ρ c k := by
  rw [Finset.sdiff_empty, duties_recv, bigSep_singleton, payload_recv]

/-- What device `c` hands partner `nb d c` with its signal: its own regions that partner will write. -/
theorem barPay_nb (d : Bool) : barPay (F := F) (nb d c) d = bigSep (Finset.univ.filter fun k : Item => via k = d) fun k => landing (F := F) c k := by
  unfold barPay
  refine bigSep_congr fun k hk => ?_
  have h : via k = d := (Finset.mem_filter.mp hk).2
  rw [← nb_via, h, nb_nb]

end Sched

/-! ## What each device owes; the levels -/

/-- The exchange the program issues at place `i`: phases in order, both streams before the second block. -/
def ord (i : ℕ) : Item :=
  (⟨i / 4 % 4, Nat.mod_lt _ (by decide)⟩, ⟨i % 2, Nat.mod_lt _ (by decide)⟩, ⟨i / 2 % 2, Nat.mod_lt _ (by decide)⟩)

/-- What device `c` still owes its partners' receive cells before it issues the exchange at place `n`. -/
def owed (c : Dev nD) (n : ℕ) : CellTallies nD τ sig Unit :=
  ∑ i ∈ Finset.Ico n 16, tallyAt (recvCell (qk (ord i) c) (ord i)) () (units (ord i).1)

/-- Issuing the exchange at place `n` pays what was owed for it. -/
theorem owed_step (c : Dev nD) (k : Item) (n : ℕ) (hn : n < 16) (hk : ord n = k) :
    owed c n = owed c (n + 1) + tallyAt (recvCell (qk k c) k) () (units k.1) := by
  subst hk; unfold owed
  have he : (Finset.Ico n 16).erase n = Finset.Ico (n + 1) 16 := by ext i; simp only [Finset.mem_erase, Finset.mem_Ico]; omega
  rw [← Finset.sum_erase_add _ _ (Finset.mem_Ico.mpr ⟨le_refl n, hn⟩), he]
/-- After the last exchange nothing is owed. -/
theorem owed_done (c : Dev nD) : owed c 16 = 0 := by unfold owed; simp

/-- At launch: also a unit to each partner's barrier cell, the one to `3 - c` signalled first. -/
def O₁ (c : Dev nD) : CellTallies nD τ sig Unit := owed c 0 + tallyAt (barCell (nb true c)) () 1
/-- What device `c` owes at launch, both barrier units included. -/
def O₀ (c : Dev nD) : CellTallies nD τ sig Unit := O₁ c + tallyAt (barCell (nb false c)) () 1

/-- The cells that have a level: those of the devices' main threads. -/
def L (g : GSem nD τ sig) : Finset Unit := if g.1.2 = .tc then {()} else ∅
/-- Barrier cells at 1, the receive cells of phase `p` at `2 + p`, everything else at 0. -/
def lv (g : GSem nD τ sig) (_ : Unit) : ℕ := match g.2 with
  | .reg _ => 1
  | .dma x => if x.val < 19 then 0 else 2 + (x.val - 19) / 4

/-- Other threads' cells have no level. -/
theorem L_of_ne (g : GSem nD τ sig) (h : g.1.2 ≠ .tc) : L g = ∅ := if_neg h
/-- Every cell of a main thread has a level. -/
theorem L_tc (c : Dev nD) (sm : SemLoc sig) : L ((c : Thread nD τ), sm) = {()} := if_pos rfl

/-- A receive cell's level is two more than its phase. -/
theorem lv_recv (c : Dev nD) (k : Item) (u : Unit) : lv (recvCell c k) u = 2 + k.1.val := by
  show (if 19 + num k < 19 then 0 else 2 + (19 + num k - 19) / 4) = _
  rw [if_neg (by omega), Nat.add_sub_cancel_left]
  have h1 := k.2.1.isLt; have h2 := k.2.2.isLt
  unfold num; omega
/-- Cells of semaphores before the receive semaphores are at level 0. -/
theorem lv_low (c : Dev nD) (x : DmaSem sig) (h : x.val < 19) (u : Unit) : lv ((c : Thread nD τ), .dma x) u = 0 := if_pos h

/-- Whatever is owed before place `n` is owed to a receive cell of a later exchange. -/
theorem owed_pos {c : Dev nD} {n : ℕ} {g : GSem nD τ sig} {u : Unit} (h : 0 < owed c n g u) :
    ∃ i, n ≤ i ∧ i < 16 ∧ g = recvCell (qk (ord i) c) (ord i) := by
  unfold owed at h
  rw [Finset.sum_apply, Finsupp.finset_sum_apply] at h
  obtain ⟨i, hi, hpos⟩ := Finset.exists_ne_zero_of_sum_ne_zero (Nat.pos_iff_ne_zero.mp h)
  rw [tallyAt_apply] at hpos
  refine ⟨i, (Finset.mem_Ico.mp hi).1, (Finset.mem_Ico.mp hi).2, ?_⟩
  by_contra hne
  exact hpos (if_neg fun h' => hne h'.1)

/-- The exchange at place `i` is in phase `i / 4`. -/
theorem ord_phase {i : ℕ} (h : i < 16) : (ord i).1.val = i / 4 := by
  show i / 4 % 4 = i / 4; omega

/-- Whatever is owed at launch is owed to a receive cell or to a partner's barrier cell. -/
theorem O₀_pos {c : Dev nD} {g : GSem nD τ sig} {u : Unit} (h : 0 < O₀ c g u) :
    (∃ i, 0 ≤ i ∧ i < 16 ∧ g = recvCell (qk (ord i) c) (ord i)) ∨ g = barCell (nb true c) ∨ g = barCell (nb false c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (owed_pos (by omega))

/-- A device may wait on a cell whose level is below that of everything it still owes. -/
theorem mayWait_owed (c : Dev nD) (sm : SemLoc sig) (n l : ℕ) (hsm : lv ((c : Thread nD τ), sm) () ≤ l) (hl : l < 2 + n / 4) :
    (levAts L lv : sProp 𝕄) ⊢ MayWait (c : Thread nD τ) sm () (owed c n) :=
  MayOwe.of_cut (L := L) (lev := lv) l (fun p hp => by rw [Finset.mem_singleton.mp hp, L_tc]; exact Finset.mem_singleton_self _)
    (fun g u hg => by obtain ⟨i, -, -, rfl⟩ := owed_pos hg; rw [L_tc]; exact Finset.mem_singleton_self _)
    (fun p hp => by rw [Finset.mem_singleton.mp hp]; exact hsm)
    (fun g u hg => by
      obtain ⟨i, h1, h2, rfl⟩ := owed_pos hg
      rw [lv_recv, ord_phase h2]
      have := Nat.div_le_div_right (c := 4) h1
      omega)

/-- A device may wait on its staging cells whether or not the launch's debts are still open. -/
theorem mayWait_stage (c : Dev nD) (x : DmaSem sig) (hx : x.val < 19) (O : CellTallies nD τ sig Unit) (hO : O = O₀ c ∨ O = 0) :
    (levAts L lv : sProp 𝕄) ⊢ MayWait (c : Thread nD τ) (.dma x) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, -, -, rfl⟩ | rfl | rfl <;> exact Finset.mem_singleton_self _)
      (fun p hp => by rw [Finset.mem_singleton.mp hp]; exact le_of_eq (lv_low c x hx ()))
      (fun g u hg => by
        rcases O₀_pos hg with ⟨i, -, -, rfl⟩ | rfl | rfl
        · rw [lv_recv]; omega
        · exact Nat.one_pos
        · exact Nat.one_pos)
  · rw [MayWait_zero]; iintro -; iempintro

end Cert.Exchange

end
-- ==== Proof.Moves.lean ====
/-
# `Moves`: one load, one store, one copy, one wait

What a load through a rectangle reads, what a store leaves, what a copy lands, each in terms of the blocks of
`Contents`; then the rule for issuing an exchange's copy and the rule for its two waits, stated once for every
exchange.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Reads and writes through rectangles of whole buffers -/

/-- The whole view of a buffer sends a set of indices to itself. -/
theorem setOn_whole (b : Ref sig .tc) (R : Finset b.ty.shape.Idx) : (View.whole b : View sig .tc _ _ _).setOn R = R := Finset.map_refl

omit [FloatOps F] in
/-- A region with contents `f` has contents `g`, if the two agree on it. -/
theorem pts_congr {c : Dev nD} {b : Ref sig .tc} {S : Finset (Idx ((c : Thread nD τ).loc b))} {f g : Buf (Elt F) ((c : Thread nD τ).loc b)}
    (h : ∀ y ∈ S, f y = g y) : pts c b S f = pts c b S g := pointsTo_congr h

omit [FloatOps F] in
/-- A store through a rectangle of a whole buffer leaves, on the rectangle, the contents it agrees with. -/
theorem write_rect (b : Ref sig .tc) (r : Rect b.ty.shape) (f G : b.ty.Contents (Elt F)) (w : r.shape.Idx → Elt F b.ty.elt)
    (h : ∀ t, w t = G (r.emb t)) : ∀ y ∈ r.set, ((Memref.whole b).access r : View sig .tc _ _ _).write (Elt F) f w Finset.univ y = G y := by
  intro y hy
  obtain ⟨t, rfl⟩ := r.exists_idx_of_mem hy
  exact (View.write_emb_of_mem (v := ((Memref.whole b).access r : View sig .tc _ _ _)) f w (Finset.mem_univ t)).trans (h t)

omit [FloatOps F] in
/-- A copy between two views leaves, on the destination, any contents reading there as the source does. -/
theorem write_copy {s : Shape} {e : EltTy} (v v' : View sig .tc .vmem s e) (fs : v.ty.Contents (Elt F)) (fd G : v'.ty.Contents (Elt F))
    (h : ∀ x, v'.read (Elt F) G x = v.read (Elt F) fs x) : ∀ y ∈ v'.set, v'.write (Elt F) fd (v.read (Elt F) fs) Finset.univ y = G y := by
  intro y hy
  obtain ⟨x, -, rfl⟩ := Finset.mem_map.mp hy
  rw [View.write_emb_of_mem _ _ (Finset.mem_univ x), ← h x, View.read_apply, cast_cast, cast_eq]

omit [FloatOps F] in
/-- A box whose rows are among those of another is inside it. -/
theorem box_sub {r0 h r0' h' c0 : ℕ} (h1 : r0' ≤ r0) (h2 : r0 + h ≤ r0' + h') : box r0 h c0 ⊆ box r0' h' c0 := by
  intro y; rw [mem_box, mem_box]; rintro ⟨⟨a, b⟩, d⟩; exact ⟨⟨by omega, by omega⟩, d⟩

/-- The index the rectangle at row `r0`, column `c0` puts its `t`-th element at. -/
theorem idx_box {off : Fin 2 → ℕ} {h r0 c0 : ℕ} (hoff : off = ![r0, c0]) (inb)
    (t : (⟨2, ![h, 256]⟩ : Shape).Idx) :
    (Rect.unit (s := S1024x1024) off ![h, 256] inb).idx t = at2 (r0 + (t 0 : ℕ)) (c0 + (t 1 : ℕ)) := by
  subst hoff
  have h0 : r0 + h ≤ 1024 := inb 0
  have h1 : c0 + 256 ≤ 1024 := inb 1
  have t0 : (t 0 : ℕ) < h := (t 0).isLt
  have t1 : (t 1 : ℕ) < 256 := (t 1).isLt
  funext a; apply Fin.ext
  match a with
  | ⟨0, _⟩ => show r0 + 1 * (t 0 : ℕ) = (r0 + (t 0 : ℕ)) % 1024; omega
  | ⟨1, _⟩ => show c0 + 1 * (t 1 : ℕ) = (c0 + (t 1 : ℕ)) % 1024; omega

/-- The index slot `(s, j)`'s rectangle puts its `t`-th element at. -/
theorem idx_slot {off : Fin 4 → ℕ} {h : ℕ} {s j : Fin 2} (hoff : off = ![s.val, j.val, 0, 0]) (inb)
    (t : (⟨4, ![1, 1, h, 256]⟩ : Shape).Idx) :
    (Rect.unit (s := ⟨4, ![2, 2, h, 256]⟩) off ![1, 1, h, 256] inb).idx t = ix4 s j (t 2) (t 3) := by
  subst hoff
  have t0 : (t 0 : ℕ) < 1 := (t 0).isLt
  have t1 : (t 1 : ℕ) < 1 := (t 1).isLt
  funext a; apply Fin.ext
  match a with
  | ⟨0, _⟩ => show s.val + 1 * (t 0 : ℕ) = s.val; omega
  | ⟨1, _⟩ => show j.val + 1 * (t 1 : ℕ) = j.val; omega
  | ⟨2, _⟩ => show 0 + 1 * (t 2 : ℕ) = (t 2 : ℕ); omega
  | ⟨3, _⟩ => show 0 + 1 * (t 3 : ℕ) = (t 3 : ℕ); omega

/-- The index the 256 by 256 rectangle of the staged `w_mat` at column `c0` puts its element `t` at. -/
theorem idx_wcol {off : Fin 2 → ℕ} {c0 : ℕ} (hoff : off = ![0, c0]) (inb) (t : S256x256.Idx) :
    (Rect.unit (s := S256x1024) off ![256, 256] inb).idx t = ix2 (t 0) ⟨(c0 + (t 1 : ℕ)) % 1024, Nat.mod_lt _ (by decide)⟩ := by
  subst hoff
  have h1 : c0 + 256 ≤ 1024 := inb 1
  have t1 : (t 1 : ℕ) < 256 := (t 1).isLt
  funext a; apply Fin.ext
  match a with
  | ⟨0, _⟩ => show 0 + 1 * (t 0 : ℕ) = (t 0 : ℕ); omega
  | ⟨1, _⟩ => show c0 + 1 * (t 1 : ℕ) = (c0 + (t 1 : ℕ)) % 1024; omega

/-- The row of `at2 a b` is `a`. -/
theorem at2_val0 {a b : ℕ} (h : a < 1024) : ((at2 a b) 0 : ℕ) = a := Nat.mod_eq_of_lt h
/-- The column of `at2 a b` is `b`. -/
theorem at2_val1 {a b : ℕ} (h : b < 1024) : ((at2 a b) 1 : ℕ) = b := Nat.mod_eq_of_lt h

omit [FloatOps F] in
/-- Blocks of contents that agree on the block's region are the same. -/
theorem blk_congr {α : Type} {h r0 c0 : ℕ} {f g : S1024x1024.Idx → α} (hr : r0 + h ≤ 1024) (hc : c0 + 256 ≤ 1024)
    (hfg : ∀ y ∈ box r0 h c0, f y = g y) : blk h r0 c0 f = blk h r0 c0 g := by
  funext t
  have t0 : (t 0 : ℕ) < h := (t 0).isLt
  have t1 : (t 1 : ℕ) < 256 := (t 1).isLt
  refine hfg _ (mem_box.mpr ?_)
  rw [at2_val0 (by omega), at2_val1 (by omega)]
  exact ⟨⟨by omega, by omega⟩, by omega, by omega⟩

/-! ## The cells' records -/

/-- A device's cells: its barrier cell, then per exchange its send cell (`false`) and its receive cell (`true`). -/
abbrev CIx : Type := Unit ⊕ (Bool × Item)
/-- The semaphore of a cell. -/
def csem : CIx → SemLoc sig
  | .inl _ => .reg barS
  | .inr (b, k) => .dma (if b then recvS k else sendS k)
abbrev kcell (ck : Dev nD × CIx) : GSem nD τ sig := ((ck.1 : Thread nD τ), csem ck.2)

/-- Every cell's invariant under the names `K`, and that every cell has reached round 0. -/
def records (K : Dev nD × CIx → ℕ) : sProp 𝕄 :=
  iprop((bigSep Finset.univ fun ck : Dev nD × CIx => cellInv ER (rd m ρ) (K ck) (kcell ck))
    ∗ bigSep Finset.univ fun ck : Dev nD × CIx => reached ER (kcell ck) 0)

instance records_persistent (K : Dev nD × CIx → ℕ) : BI.Persistent (records (F := F) m ρ K) := by unfold records; infer_instance

/-- The records give each cell's invariant. -/
theorem inv_at (K : Dev nD × CIx → ℕ) (ck : Dev nD × CIx) : records m ρ K ⊢ (cellInv ER (rd (F := F) m ρ) (K ck) (kcell ck) : sProp 𝕄) := by
  unfold records; exact Idealize.SL.BI.Entails.trans (Idealize.SL.BI.Entails.trans Idealize.SL.BI.sep_and Idealize.SL.BI.and_elimL) (bigSep_elim (Finset.mem_univ ck))
/-- The records give that each cell has reached round 0. -/
theorem reached_at (K : Dev nD × CIx → ℕ) (ck : Dev nD × CIx) : records m ρ K ⊢ (reached ER (kcell ck) 0 : sProp 𝕄) := by
  unfold records; exact Idealize.SL.BI.Entails.trans (Idealize.SL.BI.Entails.trans Idealize.SL.BI.sep_and Idealize.SL.BI.and_elimR) (bigSep_elim (Finset.mem_univ ck))

/-! ## An exchange: before, in flight, done -/

/-- What device `c` owes, whatever it has waited on so far. -/
def debt (c : Dev nD) (n : ℕ) : sProp 𝕄 := iprop(∃ W, owes (c : Thread nD τ) (owed c n) W)

/-- What device `c` holds for exchange `k` before it copies: the two duties it pays, its positions at its own two
    cells, and the credit its partner's copy will bring. -/
def toks (c : Dev nD) (k : Item) : sProp 𝕄 :=
  iprop(dutyTok ER (sendCell c k) 0 false ∗ dutyTok ER (recvCell (qk k c) k) 0 false ∗ atPos ER (sendCell c k) 0 ∅ 0 ∗ atPos ER (recvCell c k) 0 ∅ 0
    ∗ cred (tallyAt (recvCell c k) () (units k.1)))
/-- Once it has copied: the credit its own copy brings in place of the duties. -/
def flight (c : Dev nD) (k : Item) : sProp 𝕄 :=
  iprop(cred (tallyAt (sendCell c k) () (units k.1)) ∗ atPos ER (sendCell c k) 0 ∅ 0 ∗ atPos ER (recvCell c k) 0 ∅ 0
    ∗ cred (tallyAt (recvCell c k) () (units k.1)))
/-- Once it has waited: both cells closed, their counters at zero. -/
def closed (c : Dev nD) (k : Item) : sProp 𝕄 := iprop(semVal (sendCell c k) 0 ∗ semVal (recvCell c k) 0)

/-- Issuing exchange `k`'s copy from `src` on device `c` to `dst` on its partner. -/
theorem wp_send_item (K : Dev nD × CIx → ℕ) (c n : Dev nD) (k : Item) (i : ℕ) (hn : n = qk k c) (hi : i < 16) (hk : ord i = k)
    {s : Shape} {e : EltTy} (src dst : Memref sig .tc .vmem s e) (sS sR : DmaSem sig) (hS : sS = sendS k) (hR : sR = recvS k)
    {hsc : (dst : Memref sig (Dev.tc n : Thread nD τ).2.kind .vmem s e).view.ref.isScScratch = false} {hsrc : src.view.WordExact}
    {hdst : (dst : Memref sig (Dev.tc n : Thread nD τ).2.kind .vmem s e).view.WordExact}
    {hsem : DmaTarget.Typed .vmem (.dma sR) (.remote (Dev.tc n : Thread nD τ) (dst : Memref sig (Dev.tc n : Thread nD τ).2.kind .vmem s e) (.dma sS) hsc)}
    (fs : Buf (Elt F) (src.view.loc (c : Thread nD τ))) (fd : Buf (Elt F) (dst.view.loc (qk k c : Thread nD τ)))
    (hN : dst.view.dmaCredit = units k.1)
    (hpay₁ : (src.view.loc (c : Thread nD τ) ↦[src.view.set]{fullShare} fs) ⊢ source m ρ c k)
    (hpay₂ : (dst.view.loc (qk k c : Thread nD τ) ↦[dst.view.set]{fullShare} (dst.view.write (Elt F) fd (src.view.read (Elt F) fs) Finset.univ)) ⊢ landed m ρ (qk k c) k)
    {α : Type} {Q : α → sProp 𝕄} {kt : PUnit → Prog (TpuEff nD τ sig (Elt F) Λ₀ .tc) α} :
    iprop(records m ρ K ∗ (src.view.loc (c : Thread nD τ) ↦[src.view.set]{fullShare} fs) ∗ (dst.view.loc (qk k c : Thread nD τ) ↦[dst.view.set]{fullShare} fd)
        ∗ debt c i ∗ toks c k)
      ⊢ iprop(((debt c (i + 1) ∗ flight c k) -∗ WP c (kt ⟨⟩) Q)
          -∗ WP c (.op (.enqueueDma src (.remote (Dev.tc n : Thread nD τ) dst (.dma sS) hsc) (.dma sR) hsrc hdst hsem) kt) Q) := by
  subst hn; subst hS; subst hR
  unfold debt toks flight
  iintro ⟨#Hrec, Hs, Hd, ⟨%W, HO⟩, HtS, HtR, HaS, HaR, Hc⟩ Hk
  iapply (Rounds.wp_send_pointsTo 𝒱₀ ER (rd m ρ) (c : Thread nD τ) none (κ₁ := K (c, .inr (false, k))) (κ₂ := K (qk k c, .inr (true, k)))
    (c' := (qk k c : Thread nD τ)) (r₁ := 0) (r₂ := 0) (d₁ := false) (d₂ := false) (fs := fs) (fd := fd)
    (by rw [duties_send]; exact Finset.mem_singleton_self _) (by rw [duties_recv]; exact Finset.mem_singleton_self _)
    () () (units k.1) (show dst.view.amount (.dma (recvS k)) = _ from hN) (amount_send m ρ c k false) (amount_recv m ρ (qk k c) k false) (owed c (i + 1)) (owed_step c k i hi hk) (W := W)
    (by rw [payload_send]; exact hpay₁) (by rw [payload_recv]; exact hpay₂)) $$ [Hs Hd HO HtS HtR]
  · isplitr; · iapply (inv_at m ρ K (c, .inr (false, k))); iexact Hrec
    isplitr; · iapply (inv_at m ρ K (qk k c, .inr (true, k))); iexact Hrec
    isplitl [Hs]; · iexact Hs
    isplitl [Hd]; · iexact Hd
    isplitl [HO]; · iexact HO
    isplitl [HtS]; · iexact HtS
    isplitr; · iapply (reached_at m ρ K (c, .inr (false, k))); iexact Hrec
    isplitl [HtR]; · iexact HtR
    iapply (reached_at m ρ K (qk k c, .inr (true, k))); iexact Hrec
  iintro ⟨HcS, HO⟩
  iapply Hk
  isplitl [HO]; · iexists W; iexact HO
  isplitl [HcS]; · iexact HcS
  isplitl [HaS]; · iexact HaS
  isplitl [HaR]; · iexact HaR
  iexact Hc

/-- Waiting on exchange `k`'s two semaphores: the source region back, the own region filled, both cells closed. -/
theorem wp_wait_item (K : Dev nD × CIx → ℕ) (c : Dev nD) (k : Item) (i : ℕ) (hi : k.1.val < i / 4)
    {s s' : Shape} {e e' : EltTy} (a₁ b₁ : Memref sig .tc .vmem s e) (a₂ b₂ : Memref sig .tc .vmem s' e') (sS sR : DmaSem sig) (hS : sS = sendS k) (hR : sR = recvS k)
    {ha₁ : a₁.view.WordExact} {hb₁ : b₁.view.WordExact} {ha₂ : a₂.view.WordExact} {hb₂ : b₂.view.WordExact}
    (hN₁ : b₁.view.dmaCredit = units k.1) (hN₂ : b₂.view.dmaCredit = units k.1)
    {α : Type} {Q : α → sProp 𝕄} {kt : PUnit → Prog (TpuEff nD τ sig (Elt F) Λ₀ .tc) α} :
    iprop(records m ρ K ∗ levAts L lv ∗ debt c i ∗ flight c k)
      ⊢ iprop(((debt c i ∗ source m ρ c k ∗ landed m ρ c k ∗ closed c k) -∗ WP c (kt ⟨⟩) Q)
          -∗ WP c (.op (.waitDma2 sS a₁ b₁ ha₁ hb₁) fun _ => .op (.waitDma2 sR a₂ b₂ ha₂ hb₂) kt) Q) := by
  subst hS; subst hR
  unfold debt flight closed
  iintro ⟨#Hrec, #Hlev, ⟨%W, HO⟩, HcS, HaS, HaR, HcR⟩ Hk
  iapply (Rounds.wp_wait_rest_token 𝒱₀ ER (rd m ρ) (c : Thread nD τ) none (κ := K (c, .inr (false, k)))
      (wpE_waitDma2_eq 𝒱₀ (c : Thread nD τ) none Set.univ) (Set.mem_univ _) () (O := owed c i) (W := W) (R := 0) (m := 0) (T := ∅)
      (by rw [Nat.zero_add, expect_send]; exact hN₁)) $$ [HcS HO HaS]
  · isplitr; · iapply (inv_at m ρ K (c, .inr (false, k))); iexact Hrec
    isplitl [HcS]; · rw [hN₁]; iexact HcS
    isplitl [HO]; · iexact HO
    isplitr
    · iapply (mayWait_owed c (.dma (sendS k)) i 0 (le_of_eq (lv_low c _ (by have := num_lt k; show 3 + num k < 19; omega) ())) (by omega)); iexact Hlev
    iexact HaS
  iintro ⟨HO, HaS, -, Hpay⟩
  ihave Hsrc := (Entails.of_eq (rest_send m ρ c k)) $$ Hpay
  iapply (Rounds.wp_wait_rest_token 𝒱₀ ER (rd m ρ) (c : Thread nD τ) none (κ := K (c, .inr (true, k)))
      (wpE_waitDma2_eq 𝒱₀ (c : Thread nD τ) none Set.univ) (Set.mem_univ _) () (O := owed c i) (W := insert (SemLoc.dma (sendS k), ()) W) (R := 0) (m := 0) (T := ∅)
      (by rw [Nat.zero_add, expect_recv]; exact hN₂)) $$ [HcR HO HaR]
  · isplitr; · iapply (inv_at m ρ K (c, .inr (true, k))); iexact Hrec
    isplitl [HcR]; · rw [hN₂]; iexact HcR
    isplitl [HO]; · iexact HO
    isplitr
    · iapply (mayWait_owed c (.dma (recvS k)) i (2 + k.1.val) (le_of_eq (lv_recv c k ())) (by omega)); iexact Hlev
    iexact HaR
  iintro ⟨HO, HaR, -, Hpay⟩
  ihave Hdst := (Entails.of_eq (rest_recv m ρ c k)) $$ Hpay
  imod (Rounds.cell_close ER (rd m ρ) (Set.mem_univ (K (c, .inr (false, k)))) (fun h => h) (R := 0 + 1) (duties_later m ρ (sendCell c k))) $$ [HaS] with HzS
  · isplitr; · iapply (inv_at m ρ K (c, .inr (false, k))); iexact Hrec
    iexact HaS
  imod (Rounds.cell_close ER (rd m ρ) (Set.mem_univ (K (c, .inr (true, k)))) (fun h => h) (R := 0 + 1) (duties_later m ρ (recvCell c k))) $$ [HaR] with HzR
  · isplitr; · iapply (inv_at m ρ K (c, .inr (true, k))); iexact Hrec
    iexact HaR
  iapply Hk
  isplitl [HO]; · iexists _; iexact HO
  isplitl [Hsrc]; · iexact Hsrc
  isplitl [Hdst]; · iexact Hdst
  isplitl [HzS] <;> iassumption

/-! ## The same rules over the regions of `Protocol` -/

/-- A load keeps what is held and reads it. -/
theorem ld (c : Dev nD) {s : Shape} {e : EltTy} {cs : CoreSpace} (b : Memref sig .tc cs s e) {r : LoadRect s} {hl : b.view.LoadsAt r}
    {α : Type} {Q : α → sProp 𝕄} {k : (r.shape.Idx → Elt F e) → Prog (TpuEff nD τ sig (Elt F) Λ₀ .tc) α} {S} {f : Buf (Elt F) (b.view.loc (c : Thread nD τ))}
    (hS : b.view.setOn r.set ⊆ S) :
    pts c b.view.ref S f ⊢ iprop((pts c b.view.ref S f -∗ WP c (k (b.view.readAt (Elt F) r f)) Q) -∗ WP c (.op (.load b r hl) k) Q) :=
  wp_load 𝒱₀ (c : Thread nD τ) none Set.univ (m := b) hS

/-- A load whose value is not used keeps what is held. -/
theorem ld_dead (c : Dev nD) {s : Shape} {e : EltTy} {cs : CoreSpace} (b : Memref sig .tc cs s e) {r : LoadRect s} {hl : b.view.LoadsAt r}
    {α : Type} {Q : α → sProp 𝕄} {k : Prog (TpuEff nD τ sig (Elt F) Λ₀ .tc) α} {S} (hS : b.view.setOn r.set ⊆ S) :
    ptsEx c b.view.ref S ⊢ iprop((ptsEx c b.view.ref S -∗ WP c k Q) -∗ WP c (.op (.load b r hl) fun _ => k) Q) := by
  unfold ptsEx
  iintro ⟨%f, H⟩ Hk
  iapply (ld c b hS) $$ H; iintro H
  iapply Hk; iexists f; iexact H

/-- A store over a region of any contents leaves contents `G` there. -/
theorem st (c : Dev nD) {s : Shape} {e : EltTy} {cs : CoreSpace} (b : Memref sig .tc cs s e) {r : Rect s} {w : r.shape.Idx → Elt F e}
    {hx : (b.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} {S} (G : Buf (Elt F) ((b.access r).loc (c : Thread nD τ)))
    (hS : (b.access r).set = S) (hG : ∀ f, ∀ y ∈ S, (b.access r).write (Elt F) f w Finset.univ y = G y) :
    ptsEx c b.view.ref S ⊢ iprop((pts c b.view.ref S G -∗ WP c (k ⟨⟩) Q) -∗ WP c (.op (.store b r w Finset.univ hx hm) k) Q) := by
  unfold ptsEx pts
  iintro ⟨%f, H⟩ Hk
  iapply (wp_store 𝒱₀ (c : Thread nD τ) none Set.univ (m := b) (r := r) (Mk := Finset.univ) (S := S) (f := f) hS.subset) $$ [H]
  · iexact H
  iintro H
  iapply Hk
  iapply (Entails.of_eq (pointsTo_congr (hG f))); iexact H

/-- What device `c` holds for exchange `k` once the partner has signalled: its tokens and the region it will write. -/
def ready (c : Dev nD) (k : Item) : sProp 𝕄 := iprop(toks c k ∗ landing (qk k c) k)

/-- Issuing exchange `k`'s copy: the source holds `fs`, and `G` reads through the destination as `fs` does through the source. -/
theorem wp_send_pts (K : Dev nD × CIx → ℕ) (c n : Dev nD) (k : Item) (i : ℕ) (hn : n = qk k c) (hi : i < 16) (hk : ord i = k)
    {s : Shape} {e : EltTy} (src dst : Memref sig .tc .vmem s e) (sS sR : DmaSem sig) (hS : sS = sendS k) (hR : sR = recvS k)
    {hsc : (dst : Memref sig (Dev.tc n : Thread nD τ).2.kind .vmem s e).view.ref.isScScratch = false} {hsrc : src.view.WordExact}
    {hdst : (dst : Memref sig (Dev.tc n : Thread nD τ).2.kind .vmem s e).view.WordExact}
    {hsem : DmaTarget.Typed .vmem (.dma sR) (.remote (Dev.tc n : Thread nD τ) (dst : Memref sig (Dev.tc n : Thread nD τ).2.kind .vmem s e) (.dma sS) hsc)}
    (fs : Buf (Elt F) (src.view.loc (c : Thread nD τ))) (G : Buf (Elt F) (dst.view.loc (qk k c : Thread nD τ))) {Ss Sd}
    (hSs : src.view.set = Ss) (hSd : dst.view.set = Sd) (hG : ∀ x, dst.view.read (Elt F) G x = src.view.read (Elt F) fs x)
    (hN : dst.view.dmaCredit = units k.1)
    (h₁ : source m ρ c k = pts c src.view.ref Ss fs) (h₂ : landing (F := F) (qk k c) k = ptsEx (qk k c) dst.view.ref Sd)
    (h₃ : landed m ρ (qk k c) k = pts (qk k c) dst.view.ref Sd G)
    {α : Type} {Q : α → sProp 𝕄} {kt : PUnit → Prog (TpuEff nD τ sig (Elt F) Λ₀ .tc) α} :
    iprop(records m ρ K ∗ pts c src.view.ref Ss fs ∗ debt c i ∗ ready c k)
      ⊢ iprop(((debt c (i + 1) ∗ flight c k) -∗ WP c (kt ⟨⟩) Q)
          -∗ WP c (.op (.enqueueDma src (.remote (Dev.tc n : Thread nD τ) dst (.dma sS) hsc) (.dma sR) hsrc hdst hsem) kt) Q) := by
  subst hSs; subst hSd
  unfold ready; rw [h₂]; unfold ptsEx
  rw [show pts c src.view.ref src.view.set fs = (src.view.loc (c : Thread nD τ) ↦[src.view.set]{fullShare} fs) from rfl]
  iintro ⟨#Hrec, Hs, HO, Ht, ⟨%fd, Hd⟩⟩ Hk
  ihave Hd := (Entails.of_eq (show pts (qk k c) dst.view.ref dst.view.set fd = (dst.view.loc (qk k c : Thread nD τ) ↦[dst.view.set]{fullShare} fd) from rfl)) $$ Hd
  iapply (wp_send_item m ρ K c n k i hn hi hk src dst sS sR hS hR fs fd hN (Entails.of_eq h₁.symm)
    (Entails.of_eq ((pointsTo_congr (write_copy src.view dst.view fs fd G hG)).trans h₃.symm))) $$ [Hs Hd HO Ht]
  · isplitr; · iexact Hrec
    isplitl [Hs]; · iexact Hs
    isplitl [Hd]; · iexact Hd
    isplitl [HO] <;> iassumption
  iexact Hk

end Cert.Exchange

end
-- ==== Proof.Blocks.lean ====
/-
# `Blocks`: what each store leaves and each copy lands, and regions cut in halves

The contents of `Contents` at the elements of one block, as the payload that writes the block states them; and the
cutting and joining of regions.
-/
module

public import proofs.«01_k».proof.Proof.Moves

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Reads -/

omit [FloatOps F] in
/-- A load of a block of the product buffer reads that block. -/
theorem read_z {off : Fin 2 → ℕ} {h r0 c0 : ℕ} (hoff : off = ![r0, c0]) (inb) (f : S1024x1024.Idx → Elt F .f32) :
    (Memref.whole cc0_scratch0).view.readAt (Elt F) (Rect.unit (s := S1024x1024) off ![h, 256] inb).toLoadRect f = blk h r0 c0 f := by
  funext t; exact congrArg f (idx_box hoff inb t)

omit [FloatOps F] in
/-- A load of a column block of the staged `w_mat` reads that block. -/
theorem read_w {off : Fin 2 → ℕ} {c0 : ℕ} (hoff : off = ![0, c0]) (inb) (f : S256x1024.Idx → Elt F .bf16) :
    (Memref.whole cc0_stg1_0).view.readAt (Elt F) (Rect.unit (s := S256x1024) off S256x256.size inb).toLoadRect f = wblk c0 f := by
  funext t; exact congrArg f (idx_wcol hoff inb t)

omit [FloatOps F] in
/-- A load of a slot of the phase 0 receive buffer reads that slot. -/
theorem read_r1 {off : Fin 4 → ℕ} {s j : Fin 2} (hoff : off = ![s.val, j.val, 0, 0]) (inb) (f : S2x2x512x256.Idx → Elt F .bf16) :
    (Memref.whole cc0_scratch2).view.readAt (Elt F) (Rect.unit (s := S2x2x512x256) off S1x1x512x256.size inb).toLoadRect f = slotOf 512 s j f := by
  funext t; exact congrArg f (idx_slot hoff inb t)

omit [FloatOps F] in
/-- A load of a slot of the phase 1 receive buffer reads that slot. -/
theorem read_r2 {off : Fin 4 → ℕ} {s j : Fin 2} (hoff : off = ![s.val, j.val, 0, 0]) (inb) (f : S2x2x256x256.Idx → Elt F .bf16) :
    (Memref.whole cc0_scratch4).view.readAt (Elt F) (Rect.unit (s := S2x2x256x256) off S1x1x256x256.size inb).toLoadRect f = slotOf 256 s j f := by
  funext t; exact congrArg f (idx_slot hoff inb t)

/-! ## Contents, block by block -/

/-- Column `b` of block `(s, j)` is inside the buffer, and `b` is its place in the block. -/
theorem mod_col (s j : Fin 2) (b : ℕ) (hb : b < 256) : (col s j + b) % 1024 = col s j + b ∧ (col s j + b) % 256 = b := by
  have := col_le s j; unfold col at *; omega

/-- An index built from a column of block `(s, j)` is in stream `s`. -/
theorem strm_at (s j : Fin 2) (a b : ℕ) (hb : b < 256) : strm ((at2 a (col s j + b)) 1) = s := by
  rw [show (((at2 a (col s j + b)) 1 : Fin 1024) : ℕ) = col s j + b from (mod_col s j b hb).1]
  exact strm_col s j _ ⟨by omega, by omega⟩
/-- An index built from a column of block `(s, j)` has second block coordinate `j`. -/
theorem sub_at (s j : Fin 2) (a b : ℕ) (hb : b < 256) : sub ((at2 a (col s j + b)) 1) = j := by
  rw [show (((at2 a (col s j + b)) 1 : Fin 1024) : ℕ) = col s j + b from (mod_col s j b hb).1]
  exact sub_col s j _ ⟨by omega, by omega⟩

/-- The product the kernel computes for block `(s, j)` is that block of `D`. -/
theorem D_at (c : Dev nD) (s j : Fin 2) (t : S1024x256.Idx) :
    k0_pay1 (F := F) (xC m ρ c) (wblk (col s j) (wC m ρ c)) t = D m ρ c (at2 (0 + (t 0 : ℕ)) (col s j + (t 1 : ℕ))) := by
  have h0 : (t 0 : ℕ) < 1024 := (t 0).isLt
  have h1 : (t 1 : ℕ) < 256 := (t 1).isLt
  unfold D
  rw [strm_at s j _ _ h1, sub_at s j _ _ h1]
  congr 1
  rw [eq_ix2 t]
  congr 1 <;> apply Fin.ext
  · show (t 0 : ℕ) = (0 + (t 0 : ℕ)) % 1024; omega
  · show (t 1 : ℕ) = (col s j + (t 1 : ℕ)) % 1024 % 256; rw [(mod_col s j _ h1).1, (mod_col s j _ h1).2]

/-- The sum the kernel computes in phase 1 is the kept half of block `(s, j)` of `Z`. -/
theorem Z_at (c : Dev nD) (s j : Fin 2) (t : S512x256.Idx) :
    k0_pay12 (F := F) (blk 512 (512 * hh s c) (col s j) (D m ρ c)) (slotOf 512 s j (B1 m ρ c)) t
      = Z m ρ c (at2 (512 * hh s c + (t 0 : ℕ)) (col s j + (t 1 : ℕ))) := by
  have h0 : (t 0 : ℕ) < 512 := (t 0).isLt
  have h1 : (t 1 : ℕ) < 256 := (t 1).isLt
  have := hh_lt s c
  unfold Z
  rw [strm_at s j _ _ h1, sub_at s j _ _ h1]
  congr 1
  rw [eq_ix2 t]
  congr 1 <;> apply Fin.ext
  · show (t 0 : ℕ) = (512 * hh s c + (t 0 : ℕ)) % 1024 % 512; omega
  · show (t 1 : ℕ) = (col s j + (t 1 : ℕ)) % 1024 % 256; rw [(mod_col s j _ h1).1, (mod_col s j _ h1).2]

/-- The sum the kernel computes in phase 2 is the device's quarter of block `(s, j)` of `OUT`. -/
theorem OUT_at (c : Dev nD) (s j : Fin 2) (t : S256x256.Idx) :
    k0_pay19 (F := F) (blk 256 (256 * qq s c) (col s j) (Z m ρ c)) (slotOf 256 s j (B2 m ρ c)) t
      = OUT m ρ (at2 (256 * qq s c + (t 0 : ℕ)) (col s j + (t 1 : ℕ))) := by
  have h0 : (t 0 : ℕ) < 256 := (t 0).isLt
  have h1 : (t 1 : ℕ) < 256 := (t 1).isLt
  have hq := qq_lt s c
  have ha : (((at2 (256 * qq s c + (t 0 : ℕ)) (col s j + (t 1 : ℕ))) 0 : Fin 1024) : ℕ) = 256 * qq s c + (t 0 : ℕ) := at2_val0 (by omega)
  have hd : (256 * qq s c + (t 0 : ℕ)) / 256 = qq s c := by omega
  have ho : ow s ⟨(256 * qq s c + (t 0 : ℕ)) / 256 % 4, Nat.mod_lt _ (by decide)⟩ = c :=
    (congrArg (ow s) (Fin.ext (by show _ % 4 = qq s c; omega))).trans (ow_qq s c hq)
  have ht : t = ix2 (⟨(256 * qq s c + (t 0 : ℕ)) % 256, Nat.mod_lt _ (by decide)⟩ : Fin 256)
      (⟨(((at2 (256 * qq s c + (t 0 : ℕ)) (col s j + (t 1 : ℕ))) 1 : Fin 1024) : ℕ) % 256, Nat.mod_lt _ (by decide)⟩ : Fin 256) := by
    refine (eq_ix2 t).trans ?_
    congr 1 <;> apply Fin.ext
    · show (t 0 : ℕ) = (256 * qq s c + (t 0 : ℕ)) % 256; omega
    · show (t 1 : ℕ) = (col s j + (t 1 : ℕ)) % 1024 % 256; rw [(mod_col s j _ h1).1, (mod_col s j _ h1).2]
  unfold OUT
  rw [strm_at s j _ _ h1, sub_at s j _ _ h1]
  simp only [ha]
  rw [ho, hd]
  exact congrArg _ ht

/-- An index of one slot has first two coordinates 0. -/
theorem ix_slot {h : ℕ} (t : (⟨4, ![1, 1, h, 256]⟩ : Shape).Idx) : (ix4 (0 : Fin 1) (0 : Fin 1) (t 2) (t 3) : (⟨4, ![1, 1, h, 256]⟩ : Shape).Idx) = t := by
  rw [eq_ix4 t]
  congr 1
  · exact Subsingleton.elim (α := Fin 1) _ _
  · exact Subsingleton.elim (α := Fin 1) _ _

/-- What the kernel puts in its phase 0 send buffer is slot `(s, j)` of `A1`. -/
theorem A1_at (c : Dev nD) (s j : Fin 2) (t : S1x1x512x256.Idx) :
    k0_pay2 (F := F) (blk 512 (512 * (1 - hh s c)) (col s j) (D m ρ c)) t = A1 m ρ c (ix4 s j (t 2) (t 3)) := by
  unfold A1; exact congrArg _ (ix_slot t).symm
/-- What the kernel puts in its phase 1 send buffer is slot `(s, j)` of `A2`. -/
theorem A2_at (c : Dev nD) (s j : Fin 2) (t : S1x1x256x256.Idx) :
    k0_pay11 (F := F) (blk 256 (256 * qq s (q 1 s c)) (col s j) (Z m ρ c)) t = A2 m ρ c (ix4 s j (t 2) (t 3)) := by
  unfold A2; exact congrArg _ (ix_slot t).symm

/-- On slot `(s, j)`, the phase 0 partner receives what device `c` sends. -/
theorem B1_of (c : Dev nD) {s j : Fin 2} {y : S2x2x512x256.Idx} (hy : y ∈ slot 512 s j) : B1 m ρ (q 0 s c) y = A1 m ρ c y := by
  have h : y 0 = s := Fin.ext (mem_slot.mp hy).1
  unfold B1; rw [h, q_q]
/-- On slot `(s, j)`, the phase 1 partner receives what device `c` sends. -/
theorem B2_of (c : Dev nD) {s j : Fin 2} {y : S2x2x256x256.Idx} (hy : y ∈ slot 256 s j) : B2 m ρ (q 1 s c) y = A2 m ρ c y := by
  have h : y 0 = s := Fin.ext (mem_slot.mp hy).1
  unfold B2; rw [h, q_q]

/-! ## Cutting and joining regions -/

omit [FloatOps F] in
/-- A region with known contents is a region with some contents. -/
theorem pts_any {c : Dev nD} {b : Ref sig .tc} {S : Finset (Idx ((c : Thread nD τ).loc b))} {f : Buf (Elt F) ((c : Thread nD τ).loc b)} :
    pts c b S f ⊢ ptsEx c b S := by unfold ptsEx; iintro H; iexists f; iexact H

omit [FloatOps F] in
/-- A region cut into two disjoint parts, with known contents. -/
theorem pts_cut {c : Dev nD} {b : Ref sig .tc} {S S₁ S₂ : Finset (Idx ((c : Thread nD τ).loc b))} {f : Buf (Elt F) ((c : Thread nD τ).loc b)}
    (h : S = S₁ ∪ S₂) (hd : Disjoint S₁ S₂) : pts c b S f ⊣⊢ iprop(pts c b S₁ f ∗ pts c b S₂ f) := by
  subst h; exact pointsTo_union hd

omit [FloatOps F] in
/-- A region cut into two disjoint parts, with any contents. -/
theorem ptsEx_cut {c : Dev nD} {b : Ref sig .tc} {S S₁ S₂ : Finset (Idx ((c : Thread nD τ).loc b))}
    (h : S = S₁ ∪ S₂) (hd : Disjoint S₁ S₂) : ptsEx (F := F) c b S ⊣⊢ iprop(ptsEx c b S₁ ∗ ptsEx c b S₂) := by
  constructor
  · unfold ptsEx
    iintro ⟨%f, H⟩
    ihave H := (pts_cut h hd).1 $$ H; icases H with ⟨H₁, H₂⟩
    isplitl [H₁]
    · iexists f; iexact H₁
    · iexists f; iexact H₂
  · unfold ptsEx pts
    iintro ⟨⟨%f, H₁⟩, ⟨%g, H₂⟩⟩
    iexists _
    subst h
    iapply (pointsTo_join hd)
    isplitl [H₁] <;> iassumption

/-- The two halves of a box of even height are `x` and `1 - x`, for `x` either 0 or 1. -/
theorem box_two (r0 h c0 x : ℕ) (hx : x < 2) :
    box r0 (2 * h) c0 = box (r0 + h * x) h c0 ∪ box (r0 + h * (1 - x)) h c0 ∧ Disjoint (box (r0 + h * x) h c0) (box (r0 + h * (1 - x)) h c0) := by
  constructor
  · ext y
    rw [Finset.mem_union, mem_box, mem_box, mem_box]
    interval_cases x <;> simp <;> omega
  · rw [Finset.disjoint_left]
    intro y h1 h2
    rw [mem_box] at h1 h2
    interval_cases x <;> simp at h1 h2 <;> omega

/-- A column block is the kept half and the other half of its rows. -/
theorem col_cut (s : Fin 2) (c : Dev nD) (c0 : ℕ) :
    box 0 1024 c0 = box (512 * hh s c) 512 c0 ∪ box (512 * (1 - hh s c)) 512 c0 ∧ Disjoint (box (512 * hh s c) 512 c0) (box (512 * (1 - hh s c)) 512 c0) := by
  have h := box_two 0 512 c0 (hh s c) (hh_lt s c)
  rwa [Nat.zero_add, Nat.zero_add] at h
/-- The kept half is the own quarter and the sibling quarter. -/
theorem half_cut (s : Fin 2) (c : Dev nD) (c0 : ℕ) :
    box (512 * hh s c) 512 c0 = box (256 * qq s c) 256 c0 ∪ box (256 * qq s (q 2 s c)) 256 c0 ∧ Disjoint (box (256 * qq s c) 256 c0) (box (256 * qq s (q 2 s c)) 256 c0) := by
  have h := box_two (512 * hh s c) 256 c0 (qq s c % 2) (Nat.mod_lt _ (by decide))
  have e₁ : 512 * hh s c + 256 * (qq s c % 2) = 256 * qq s c := by have := qq_half s c; omega
  have e₂ : 512 * hh s c + 256 * (1 - qq s c % 2) = 256 * qq s (q 2 s c) := by have := qq_sib2 s c; omega
  rwa [e₁, e₂] at h

/-- The quarter device `c` finishes is inside the half it keeps. -/
theorem quarter_sub (s : Fin 2) (c : Dev nD) (c0 : ℕ) : box (256 * qq s c) 256 c0 ⊆ box (512 * hh s c) 512 c0 := by
  have := qq_half s c; exact box_sub (by omega) (by omega)
/-- The quarter its phase 1 partner finishes is inside that half too. -/
theorem sib_sub (s : Fin 2) (c : Dev nD) (c0 : ℕ) : box (256 * qq s (q 1 s c)) 256 c0 ⊆ box (512 * hh s c) 512 c0 := by
  have := qq_sib s c; exact box_sub (by omega) (by omega)

end Cert.Exchange

end
-- ==== Proof.Steps.lean ====
/-
# `Steps`: the five steps of one column block

A column block `(s, j)` goes through five steps: compute and send (phase 0), then three times wait, compute and send
on, then wait once more. Each step is proved once, for every block, device and offset function.
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The buffers' views -/

abbrev xM : Memref sig .tc .vmem S1024x256 .bf16 := Memref.whole cc0_stg0_0
abbrev wM : Memref sig .tc .vmem S256x1024 .bf16 := Memref.whole cc0_stg1_0
abbrev oM : Memref sig .tc .vmem S1024x1024 .bf16 := Memref.whole cc0_stg2_0
abbrev zM : Memref sig .tc .vmem S1024x1024 .f32 := Memref.whole cc0_scratch0
abbrev s1M : Memref sig .tc .vmem S2x2x512x256 .bf16 := Memref.whole cc0_scratch1
abbrev r1M : Memref sig .tc .vmem S2x2x512x256 .bf16 := Memref.whole cc0_scratch2
abbrev s2M : Memref sig .tc .vmem S2x2x256x256 .bf16 := Memref.whole cc0_scratch3
abbrev r2M : Memref sig .tc .vmem S2x2x256x256 .bf16 := Memref.whole cc0_scratch4

abbrev R512 (so : Fin 4 → ℕ) (inb : ∀ a, so a + S1x1x512x256.size a ≤ S2x2x512x256.size a) : Rect S2x2x512x256 := Rect.unit (s := S2x2x512x256) so S1x1x512x256.size inb
abbrev R256 (so : Fin 4 → ℕ) (inb : ∀ a, so a + S1x1x256x256.size a ≤ S2x2x256x256.size a) : Rect S2x2x256x256 := Rect.unit (s := S2x2x256x256) so S1x1x256x256.size inb
/-- A slot of a phase-0 buffer, and of a phase-1 buffer, as a plain matrix. -/
abbrev V512 (b : Memref sig .tc .vmem S2x2x512x256 .bf16) (so : Fin 4 → ℕ) (inb : ∀ a, so a + S1x1x512x256.size a ≤ S2x2x512x256.size a) : Memref sig .tc .vmem S512x256 .bf16 :=
  (b.slice (R512 so inb) (fun _ => rfl)).squeeze S512x256 squeezes_S1x1x512x256_S512x256
abbrev V256 (b : Memref sig .tc .vmem S2x2x256x256 .bf16) (so : Fin 4 → ℕ) (inb : ∀ a, so a + S1x1x256x256.size a ≤ S2x2x256x256.size a) : Memref sig .tc .vmem S256x256 .bf16 :=
  (b.slice (R256 so inb) (fun _ => rfl)).squeeze S256x256 squeezes_S1x1x256x256_S256x256
/-- A quarter and a half of a column block of the output. -/
abbrev O256 (oo : Fin 2 → ℕ) (inb : ∀ a, oo a + S256x256.size a ≤ S1024x1024.size a) : Memref sig .tc .vmem S256x256 .bf16 :=
  oM.slice (Rect.unit (s := S1024x1024) oo S256x256.size inb) (fun _ => rfl)
abbrev O512 (oo : Fin 2 → ℕ) (inb : ∀ a, oo a + S512x256.size a ≤ S1024x1024.size a) : Memref sig .tc .vmem S512x256 .bf16 :=
  oM.slice (Rect.unit (s := S1024x1024) oo S512x256.size inb) (fun _ => rfl)

/-! ## What the device holds for block `(s, j)` between the steps -/

/-- Before the first step. -/
def I (c : Dev nD) (s j : Fin 2) : sProp 𝕄 :=
  iprop(ptsEx c cc0_scratch0 (box 0 1024 (col s j)) ∗ ptsEx c cc0_scratch1 (slot 512 s j) ∗ ptsEx c cc0_scratch3 (slot 256 s j)
    ∗ ptsEx c cc0_stg2_0 (box (256 * qq s c) 256 (col s j)) ∗ ready c (0, s, j) ∗ ready c (1, s, j) ∗ ready c (2, s, j) ∗ ready c (3, s, j))
/-- With phase 0's copy in flight. -/
def F0 (c : Dev nD) (s j : Fin 2) : sProp 𝕄 :=
  iprop(pts c cc0_scratch0 (box 0 1024 (col s j)) (D m ρ c) ∗ ptsEx c cc0_scratch3 (slot 256 s j)
    ∗ ptsEx c cc0_stg2_0 (box (256 * qq s c) 256 (col s j)) ∗ flight c (0, s, j) ∗ ready c (1, s, j) ∗ ready c (2, s, j) ∗ ready c (3, s, j))
/-- With phase 1's copy in flight. -/
def F1 (c : Dev nD) (s j : Fin 2) : sProp 𝕄 :=
  iprop(pts c cc0_scratch0 (box (512 * hh s c) 512 (col s j)) (Z m ρ c) ∗ ptsEx c cc0_scratch0 (box (512 * (1 - hh s c)) 512 (col s j))
    ∗ ptsEx c cc0_scratch1 (slot 512 s j) ∗ ptsEx c cc0_scratch2 (slot 512 s j) ∗ closed c (0, s, j)
    ∗ ptsEx c cc0_stg2_0 (box (256 * qq s c) 256 (col s j)) ∗ flight c (1, s, j) ∗ ready c (2, s, j) ∗ ready c (3, s, j))
/-- The scratch regions of the block, with any contents. -/
def scr (c : Dev nD) (s j : Fin 2) : sProp 𝕄 :=
  iprop(ptsEx c cc0_scratch0 (box 0 1024 (col s j)) ∗ ptsEx c cc0_scratch1 (slot 512 s j) ∗ ptsEx c cc0_scratch2 (slot 512 s j)
    ∗ ptsEx c cc0_scratch3 (slot 256 s j) ∗ ptsEx c cc0_scratch4 (slot 256 s j))
/-- With phase 2's copy in flight. -/
def F2 (c : Dev nD) (s j : Fin 2) : sProp 𝕄 :=
  iprop(scr c s j ∗ closed c (0, s, j) ∗ closed c (1, s, j) ∗ flight c (2, s, j) ∗ ready c (3, s, j))
/-- With phase 3's copy in flight. -/
def F3 (c : Dev nD) (s j : Fin 2) : sProp 𝕄 :=
  iprop(scr c s j ∗ closed c (0, s, j) ∗ closed c (1, s, j) ∗ closed c (2, s, j) ∗ flight c (3, s, j))
/-- At the end: the block of the result, the scratch regions, every cell of the block closed. -/
def E (c : Dev nD) (s j : Fin 2) : sProp 𝕄 :=
  iprop(scr c s j ∗ pts c cc0_stg2_0 (box 0 1024 (col s j)) (OUT m ρ)
    ∗ closed c (0, s, j) ∗ closed c (1, s, j) ∗ closed c (2, s, j) ∗ closed c (3, s, j))

/-- Device `c`'s staged operands. -/
def ops (c : Dev nD) : sProp 𝕄 := iprop(pts c cc0_stg0_0 Finset.univ (xC m ρ c) ∗ pts c cc0_stg1_0 Finset.univ (wC m ρ c))

/-! ## Phase 0: the own product, and half of it sent -/

/-- From the staged operands: the block's product is computed, half of it rounded and its copy issued. -/
theorem step0 (K : Dev nD × CIx → ℕ) (c n : Dev nD) (s j : Fin 2) (i : ℕ) (hi : i < 16) (hk : ord i = (0, s, j)) (hn : n = q 0 s c)
    {xo xi wo wi zo zi ho hi' so si} (hxo : xo = ![0, 0]) (hwo : wo = ![0, col s j]) (hzo : zo = ![0, col s j]) (hho : ho = ![512 * (1 - hh s c), col s j])
    (hso : so = ![s.val, j.val, 0, 0])
    {p₁ : Vec F S1024x256 .bf16 → Vec F S256x256 .bf16 → FVec F S1024x256 .f32} {p₂ : Vec F S512x256 .f32 → FVec F S1x1x512x256 .bf16}
    (hp₁ : ∀ a b, p₁ a b = k0_pay1 a b) (hp₂ : ∀ a, p₂ a = k0_pay2 a) (sS sR : DmaSem sig) (hS : sS = sendS (0, s, j)) (hR : sR = recvS (0, s, j))
    {e₁ e₂ e₃ e₄ e₄' e₅ e₆ e₇ e₇' hsc hsrc hdst hsem} {α : Type} {Q : α → sProp 𝕄} {kt : PUnit → Prog (TpuEff nD τ sig (Elt F) Λ₀ .tc) α} :
    iprop(records m ρ K ∗ ops m ρ c ∗ debt c i ∗ I c s j)
      ⊢ iprop(((ops m ρ c ∗ debt c (i + 1) ∗ F0 m ρ c s j) -∗ WP c (kt ⟨⟩) Q)
        -∗ WP c (.op (.load xM (Rect.unit (s := S1024x256) xo S1024x256.size xi).toLoadRect e₁) fun a =>
          .op (.load wM (Rect.unit (s := S256x1024) wo S256x256.size wi).toLoadRect e₂) fun b =>
          .op (.load zM (Rect.unit (s := S1024x1024) zo S1024x256.size zi).toLoadRect e₃) fun _ =>
          .op (.store zM (Rect.unit (s := S1024x1024) zo S1024x256.size zi) (p₁ a b) Finset.univ e₄ e₄') fun _ =>
          .op (.load zM (Rect.unit (s := S1024x1024) ho S512x256.size hi').toLoadRect e₅) fun d =>
          .op (.load s1M (R512 so si).toLoadRect e₆) fun _ =>
          .op (.store s1M (R512 so si) (p₂ d) Finset.univ e₇ e₇') fun _ =>
          .op (.enqueueDma (V512 s1M so si) (.remote (Dev.tc n : Thread nD τ) (V512 r1M so si) (.dma sS) hsc) (.dma sR) hsrc hdst hsem) kt) Q) := by
  unfold ops I F0
  iintro ⟨#Hrec, ⟨Hx, Hw⟩, HO, Hz, Hs1, Hs2, Ho, Hr0, Hr⟩ Hk
  have hx : ∀ f, xM.view.readAt (Elt F) (Rect.unit (s := S1024x256) xo S1024x256.size xi).toLoadRect f = f := by
    subst hxo; exact fun f => Memref.readAt_unit_zero (Elt F) cc0_stg0_0 (by funext a; fin_cases a <;> rfl) xi f
  have hbox : (zM.access (Rect.unit (s := S1024x1024) zo S1024x256.size zi)).set = box 0 1024 (col s j) :=
    (View.set_slice_whole _ _).trans (set_box (h := 1024) hzo zi)
  have hslot : (s1M.access (R512 so si)).set = slot 512 s j := (View.set_slice_whole _ _).trans (set_slot hso si)
  have hhalf : box (512 * (1 - hh s c)) 512 (col s j) ⊆ box 0 1024 (col s j) := box_sub (by omega) (by omega)
  iapply (ld c xM (Finset.subset_univ _)) $$ Hx; iintro Hx
  iapply (ld c wM (Finset.subset_univ _)) $$ Hw; iintro Hw
  iapply (ld_dead c zM ((setOn_whole _ _).trans (set_box (h := 1024) hzo zi)).subset) $$ Hz; iintro Hz
  rw [hx, read_w hwo]
  iapply (st c zM (D m ρ c) hbox (by
    rw [← hbox]
    refine fun f y hy => write_rect cc0_scratch0 _ f (D m ρ c) _ (fun t => ?_) y (by rwa [View.set_slice_whole] at hy)
    refine (congrFun (hp₁ _ _) t).trans ((D_at m ρ c s j t).trans (congrArg _ (idx_box (h := 1024) hzo zi t).symm)))) $$ Hz; iintro Hz
  iapply (ld c zM (S := box 0 1024 (col s j)) (((setOn_whole _ _).trans (set_box (h := 512) hho hi')).subset.trans hhalf)) $$ Hz; iintro Hz
  rw [read_z (h := 512) hho]
  iapply (ld_dead c s1M ((setOn_whole _ _).trans (set_slot hso si)).subset) $$ Hs1; iintro Hs1
  iapply (st c s1M (A1 m ρ c) hslot (by
    rw [← hslot]
    refine fun f y hy => write_rect cc0_scratch1 _ f (A1 m ρ c) _ (fun t => ?_) y (by rwa [View.set_slice_whole] at hy)
    refine (congrFun (hp₂ _) t).trans ((A1_at m ρ c s j t).trans (congrArg _ (idx_slot hso si t).symm)))) $$ Hs1; iintro Hs1
  have hr : (V512 r1M so si).view.set = slot 512 s j := (View.set_reshape _ _).trans ((View.set_slice_whole _ _).trans (set_slot hso si))
  iapply (wp_send_pts m ρ K c n (0, s, j) i hn hi hk (V512 s1M so si) (V512 r1M so si) sS sR hS hR (A1 m ρ c) (B1 m ρ (q 0 s c))
    (Ss := slot 512 s j) (Sd := slot 512 s j) ((View.set_reshape _ _).trans hslot) hr
    (fun x => B1_of m ρ c (j := j) (by rw [← hr]; exact View.emb_mem_set _ x)) rfl rfl rfl rfl) $$ [Hs1 HO Hr0]
  · isplitr; · iexact Hrec
    isplitl [Hs1]; · iexact Hs1
    isplitl [HO] <;> iassumption
  iintro ⟨HO, Hf⟩
  iapply Hk
  isplitl [Hx Hw]; · isplitl [Hx] <;> iassumption
  isplitl [HO]; · iexact HO
  isplitl [Hz]; · iexact Hz
  isplitl [Hs2]; · iexact Hs2
  isplitl [Ho]; · iexact Ho
  isplitl [Hf]; · iexact Hf
  iexact Hr

/-! ## Phase 1: the received half added, and a quarter of the sum sent -/

/-- After phase 0's waits: the received half is added, a quarter of the sum rounded and its copy issued. -/
theorem step1 (K : Dev nD × CIx → ℕ) (c n : Dev nD) (s j : Fin 2) (i : ℕ) (hi : i < 16) (hi4 : 0 < i / 4) (hk : ord i = (1, s, j)) (hn : n = q 1 s c)
    {zo zi ho hi' so si si'} (hzo : zo = ![512 * hh s c, col s j]) (hho : ho = ![256 * qq s (q 1 s c), col s j]) (hso : so = ![s.val, j.val, 0, 0])
    {p₁ : Vec F S512x256 .f32 → Vec F S1x1x512x256 .bf16 → FVec F S512x256 .f32} {p₂ : Vec F S256x256 .f32 → FVec F S1x1x256x256 .bf16}
    (hp₁ : ∀ a b, p₁ a b = k0_pay12 a b) (hp₂ : ∀ a, p₂ a = k0_pay11 a)
    (wS wR : DmaSem sig) (hwS : wS = sendS (0, s, j)) (hwR : wR = recvS (0, s, j)) (sS sR : DmaSem sig) (hS : sS = sendS (1, s, j)) (hR : sR = recvS (1, s, j))
    {w₁ w₂ w₃ w₄ e₁ e₂ e₃ e₄ e₄' e₅ e₆ e₇ e₇' hsc hsrc hdst hsem} {α : Type} {Q : α → sProp 𝕄} {kt : PUnit → Prog (TpuEff nD τ sig (Elt F) Λ₀ .tc) α} :
    iprop(records m ρ K ∗ levAts L lv ∗ debt c i ∗ F0 m ρ c s j)
      ⊢ iprop(((debt c (i + 1) ∗ F1 m ρ c s j) -∗ WP c (kt ⟨⟩) Q)
        -∗ WP c (.op (.waitDma2 wS (V512 r1M so si) (V512 s1M so si) w₁ w₂) fun _ =>
          .op (.waitDma2 wR (V512 s1M so si) (V512 r1M so si) w₃ w₄) fun _ =>
          .op (.load zM (Rect.unit (s := S1024x1024) zo S512x256.size zi).toLoadRect e₁) fun a =>
          .op (.load r1M (R512 so si).toLoadRect e₂) fun b =>
          .op (.load zM (Rect.unit (s := S1024x1024) zo S512x256.size zi).toLoadRect e₃) fun _ =>
          .op (.store zM (Rect.unit (s := S1024x1024) zo S512x256.size zi) (p₁ a b) Finset.univ e₄ e₄') fun _ =>
          .op (.load zM (Rect.unit (s := S1024x1024) ho S256x256.size hi').toLoadRect e₅) fun d =>
          .op (.load s2M (R256 so si').toLoadRect e₆) fun _ =>
          .op (.store s2M (R256 so si') (p₂ d) Finset.univ e₇ e₇') fun _ =>
          .op (.enqueueDma (V256 s2M so si') (.remote (Dev.tc n : Thread nD τ) (V256 r2M so si') (.dma sS) hsc) (.dma sR) hsrc hdst hsem) kt) Q) := by
  unfold F0 F1
  iintro ⟨#Hrec, #Hlev, HO, Hz, Hs2, Ho, Hf, Hr1, Hr⟩ Hk
  have hbox : (zM.access (Rect.unit (s := S1024x1024) zo S512x256.size zi)).set = box (512 * hh s c) 512 (col s j) :=
    (View.set_slice_whole _ _).trans (set_box (h := 512) hzo zi)
  have hslot : (s2M.access (R256 so si')).set = slot 256 s j := (View.set_slice_whole _ _).trans (set_slot hso si')
  have hr : (V256 r2M so si').view.set = slot 256 s j := (View.set_reshape _ _).trans ((View.set_slice_whole _ _).trans (set_slot hso si'))
  ihave Hz := (pts_cut (col_cut s c (col s j)).1 (col_cut s c (col s j)).2).1 $$ Hz; icases Hz with ⟨Hz, Hz'⟩
  iapply (wp_wait_item m ρ K c (0, s, j) i hi4 (V512 r1M so si) (V512 s1M so si) (V512 s1M so si) (V512 r1M so si) wS wR hwS hwR rfl rfl) $$ [HO Hf]
  · isplitr; · iexact Hrec
    isplitr; · iexact Hlev
    isplitl [HO] <;> iassumption
  iintro ⟨HO, Hsrc, Hdst, Hcl⟩
  ihave Hs1 := (Entails.of_eq (show source m ρ c (0, s, j) = pts c cc0_scratch1 (slot 512 s j) (A1 m ρ c) from rfl)) $$ Hsrc
  ihave Hr1' := (Entails.of_eq (show landed m ρ c (0, s, j) = pts c cc0_scratch2 (slot 512 s j) (B1 m ρ c) from rfl)) $$ Hdst
  iapply (ld c zM (S := box (512 * hh s c) 512 (col s j)) ((setOn_whole _ _).trans (set_box (h := 512) hzo zi)).subset) $$ Hz; iintro Hz
  iapply (ld c r1M (S := slot 512 s j) ((setOn_whole _ _).trans (set_slot hso si)).subset) $$ Hr1'; iintro Hr1'
  iapply (ld c zM (S := box (512 * hh s c) 512 (col s j)) ((setOn_whole _ _).trans (set_box (h := 512) hzo zi)).subset) $$ Hz; iintro Hz
  rw [read_z (h := 512) hzo, read_r1 hso]
  ihave Hz := (pts_any (F := F)) $$ Hz
  iapply (st c zM (Z m ρ c) hbox (by
    rw [← hbox]
    refine fun f y hy => write_rect cc0_scratch0 _ f (Z m ρ c) _ (fun t => ?_) y (by rwa [View.set_slice_whole] at hy)
    refine (congrFun (hp₁ _ _) t).trans ((Z_at m ρ c s j t).trans (congrArg _ (idx_box (h := 512) hzo zi t).symm)))) $$ Hz; iintro Hz
  iapply (ld c zM (S := box (512 * hh s c) 512 (col s j)) (((setOn_whole _ _).trans (set_box (h := 256) hho hi')).subset.trans (sib_sub s c _))) $$ Hz; iintro Hz
  rw [read_z (h := 256) hho]
  iapply (ld_dead c s2M ((setOn_whole _ _).trans (set_slot hso si')).subset) $$ Hs2; iintro Hs2
  iapply (st c s2M (A2 m ρ c) hslot (by
    rw [← hslot]
    refine fun f y hy => write_rect cc0_scratch3 _ f (A2 m ρ c) _ (fun t => ?_) y (by rwa [View.set_slice_whole] at hy)
    refine (congrFun (hp₂ _) t).trans ((A2_at m ρ c s j t).trans (congrArg _ (idx_slot hso si' t).symm)))) $$ Hs2; iintro Hs2
  iapply (wp_send_pts m ρ K c n (1, s, j) i hn hi hk (V256 s2M so si') (V256 r2M so si') sS sR hS hR (A2 m ρ c) (B2 m ρ (q 1 s c))
    (Ss := slot 256 s j) (Sd := slot 256 s j) ((View.set_reshape _ _).trans hslot) hr
    (fun x => B2_of m ρ c (j := j) (by rw [← hr]; exact View.emb_mem_set _ x)) rfl rfl rfl rfl) $$ [Hs2 HO Hr1]
  · isplitr; · iexact Hrec
    isplitl [Hs2]; · iexact Hs2
    isplitl [HO] <;> iassumption
  iintro ⟨HO, Hf⟩
  iapply Hk
  isplitl [HO]; · iexact HO
  isplitl [Hz]; · iexact Hz
  isplitl [Hz']; · iapply (pts_any (F := F)); iexact Hz'
  isplitl [Hs1]; · iapply (pts_any (F := F)); iexact Hs1
  isplitl [Hr1']; · iapply (pts_any (F := F)); iexact Hr1'
  isplitl [Hcl]; · iexact Hcl
  isplitl [Ho]; · iexact Ho
  isplitl [Hf]; · iexact Hf
  iexact Hr

/-! ## Phase 2: the own quarter finished, and sent -/

/-- After phase 1's waits: the device's quarter of the result is computed and its copy issued. -/
theorem step2 (K : Dev nD × CIx → ℕ) (c n : Dev nD) (s j : Fin 2) (i : ℕ) (hi : i < 16) (hi4 : 1 < i / 4) (hk : ord i = (2, s, j)) (hn : n = q 2 s c)
    {zo zi oo oi so si} (hzo : zo = ![256 * qq s c, col s j]) (hoo : oo = ![256 * qq s c, col s j]) (hso : so = ![s.val, j.val, 0, 0])
    {p₁ : Vec F S256x256 .f32 → Vec F S1x1x256x256 .bf16 → FVec F S256x256 .bf16} (hp₁ : ∀ a b, p₁ a b = k0_pay19 a b)
    (wS wR : DmaSem sig) (hwS : wS = sendS (1, s, j)) (hwR : wR = recvS (1, s, j)) (sS sR : DmaSem sig) (hS : sS = sendS (2, s, j)) (hR : sR = recvS (2, s, j))
    {w₁ w₂ w₃ w₄ e₁ e₂ e₃ e₄ e₄' hsc hsrc hdst hsem} {α : Type} {Q : α → sProp 𝕄} {kt : PUnit → Prog (TpuEff nD τ sig (Elt F) Λ₀ .tc) α} :
    iprop(records m ρ K ∗ levAts L lv ∗ debt c i ∗ F1 m ρ c s j)
      ⊢ iprop(((debt c (i + 1) ∗ F2 c s j) -∗ WP c (kt ⟨⟩) Q)
        -∗ WP c (.op (.waitDma2 wS (V256 r2M so si) (V256 s2M so si) w₁ w₂) fun _ =>
          .op (.waitDma2 wR (V256 s2M so si) (V256 r2M so si) w₃ w₄) fun _ =>
          .op (.load zM (Rect.unit (s := S1024x1024) zo S256x256.size zi).toLoadRect e₁) fun a =>
          .op (.load r2M (R256 so si).toLoadRect e₂) fun b =>
          .op (.load oM (Rect.unit (s := S1024x1024) zo S256x256.size zi).toLoadRect e₃) fun _ =>
          .op (.store oM (Rect.unit (s := S1024x1024) zo S256x256.size zi) (p₁ a b) Finset.univ e₄ e₄') fun _ =>
          .op (.enqueueDma (O256 oo oi) (.remote (Dev.tc n : Thread nD τ) (O256 oo oi) (.dma sS) hsc) (.dma sR) hsrc hdst hsem) kt) Q) := by
  unfold F1 F2 scr
  iintro ⟨#Hrec, #Hlev, HO, Hz, Hz', Hs1, Hr1, Hcl0, Ho, Hf, Hr2, Hr⟩ Hk
  have hbox : (oM.access (Rect.unit (s := S1024x1024) zo S256x256.size zi)).set = box (256 * qq s c) 256 (col s j) :=
    (View.set_slice_whole _ _).trans (set_box (h := 256) hzo zi)
  have hob : (O256 oo oi).view.set = box (256 * qq s c) 256 (col s j) := (View.set_slice_whole _ _).trans (set_box (h := 256) hoo oi)
  iapply (wp_wait_item m ρ K c (1, s, j) i hi4 (V256 r2M so si) (V256 s2M so si) (V256 s2M so si) (V256 r2M so si) wS wR hwS hwR rfl rfl) $$ [HO Hf]
  · isplitr; · iexact Hrec
    isplitr; · iexact Hlev
    isplitl [HO] <;> iassumption
  iintro ⟨HO, Hsrc, Hdst, Hcl⟩
  ihave Hs2 := (Entails.of_eq (show source m ρ c (1, s, j) = pts c cc0_scratch3 (slot 256 s j) (A2 m ρ c) from rfl)) $$ Hsrc
  ihave Hr2' := (Entails.of_eq (show landed m ρ c (1, s, j) = pts c cc0_scratch4 (slot 256 s j) (B2 m ρ c) from rfl)) $$ Hdst
  iapply (ld c zM (S := box (512 * hh s c) 512 (col s j)) (((setOn_whole _ _).trans (set_box (h := 256) hzo zi)).subset.trans (quarter_sub s c _))) $$ Hz; iintro Hz
  iapply (ld c r2M (S := slot 256 s j) ((setOn_whole _ _).trans (set_slot hso si)).subset) $$ Hr2'; iintro Hr2'
  rw [read_z (h := 256) hzo, read_r2 hso]
  iapply (ld_dead c oM ((setOn_whole _ _).trans (set_box (h := 256) hzo zi)).subset) $$ Ho; iintro Ho
  iapply (st c oM (OUT m ρ) hbox (by
    rw [← hbox]
    refine fun f y hy => write_rect cc0_stg2_0 _ f (OUT m ρ) _ (fun t => ?_) y (by rwa [View.set_slice_whole] at hy)
    refine (congrFun (hp₁ _ _) t).trans ((OUT_at m ρ c s j t).trans (congrArg _ (idx_box (h := 256) hzo zi t).symm)))) $$ Ho; iintro Ho
  iapply (wp_send_pts m ρ K c n (2, s, j) i hn hi hk (O256 oo oi) (O256 oo oi) sS sR hS hR (OUT m ρ) (OUT m ρ)
    (Ss := box (256 * qq s c) 256 (col s j)) (Sd := box (256 * qq s c) 256 (col s j)) hob hob (fun x => rfl) rfl rfl
    (by show ptsEx (q 2 s c) cc0_stg2_0 (box (256 * qq s (q 2 s (q 2 s c))) 256 (col s j)) = _; rw [q_q])
    (by show pts (q 2 s c) cc0_stg2_0 (box (256 * qq s (q 2 s (q 2 s c))) 256 (col s j)) _ = _; rw [q_q])) $$ [Ho HO Hr2]
  · isplitr; · iexact Hrec
    isplitl [Ho]; · iexact Ho
    isplitl [HO] <;> iassumption
  iintro ⟨HO, Hf⟩
  iapply Hk
  isplitl [HO]; · iexact HO
  isplitl [Hz Hz' Hs1 Hr1 Hs2 Hr2']
  · isplitl [Hz Hz']
    · iapply (ptsEx_cut (col_cut s c (col s j)).1 (col_cut s c (col s j)).2).2
      isplitl [Hz]; · iapply (pts_any (F := F)); iexact Hz
      iexact Hz'
    isplitl [Hs1]; · iexact Hs1
    isplitl [Hr1]; · iexact Hr1
    isplitl [Hs2]; · iapply (pts_any (F := F)); iexact Hs2
    iapply (pts_any (F := F)); iexact Hr2'
  isplitl [Hcl0]; · iexact Hcl0
  isplitl [Hcl]; · iexact Hcl
  isplitl [Hf] <;> iassumption

/-! ## Phase 3: the finished half sent -/

/-- After phase 2's waits: the copy of the finished half is issued. -/
theorem step3 (K : Dev nD × CIx → ℕ) (c n : Dev nD) (s j : Fin 2) (i : ℕ) (hi : i < 16) (hi4 : 2 < i / 4) (hk : ord i = (3, s, j)) (hn : n = q 3 s c)
    {wo wi oo oi} (hoo : oo = ![512 * hh s c, col s j])
    (wS wR : DmaSem sig) (hwS : wS = sendS (2, s, j)) (hwR : wR = recvS (2, s, j)) (sS sR : DmaSem sig) (hS : sS = sendS (3, s, j)) (hR : sR = recvS (3, s, j))
    {w₁ w₂ w₃ w₄ hsc hsrc hdst hsem} {α : Type} {Q : α → sProp 𝕄} {kt : PUnit → Prog (TpuEff nD τ sig (Elt F) Λ₀ .tc) α} :
    iprop(records m ρ K ∗ levAts L lv ∗ debt c i ∗ F2 c s j)
      ⊢ iprop(((debt c (i + 1) ∗ F3 c s j) -∗ WP c (kt ⟨⟩) Q)
        -∗ WP c (.op (.waitDma2 wS (O256 wo wi) (O256 wo wi) w₁ w₂) fun _ =>
          .op (.waitDma2 wR (O256 wo wi) (O256 wo wi) w₃ w₄) fun _ =>
          .op (.enqueueDma (O512 oo oi) (.remote (Dev.tc n : Thread nD τ) (O512 oo oi) (.dma sS) hsc) (.dma sR) hsrc hdst hsem) kt) Q) := by
  unfold F2 F3
  iintro ⟨#Hrec, #Hlev, HO, Hscr, Hcl0, Hcl1, Hf, Hr⟩ Hk
  have hob : (O512 oo oi).view.set = box (512 * hh s c) 512 (col s j) := (View.set_slice_whole _ _).trans (set_box (h := 512) hoo oi)
  iapply (wp_wait_item m ρ K c (2, s, j) i hi4 (O256 wo wi) (O256 wo wi) (O256 wo wi) (O256 wo wi) wS wR hwS hwR rfl rfl) $$ [HO Hf]
  · isplitr; · iexact Hrec
    isplitr; · iexact Hlev
    isplitl [HO] <;> iassumption
  iintro ⟨HO, Hsrc, Hdst, Hcl⟩
  ihave Ho₁ := (Entails.of_eq (show source m ρ c (2, s, j) = pts c cc0_stg2_0 (box (256 * qq s c) 256 (col s j)) (OUT m ρ) from rfl)) $$ Hsrc
  ihave Ho₂ := (Entails.of_eq (show landed m ρ c (2, s, j) = pts c cc0_stg2_0 (box (256 * qq s (q 2 s c)) 256 (col s j)) (OUT m ρ) from rfl)) $$ Hdst
  ihave Ho := (pts_cut (c := c) (b := cc0_stg2_0) (f := OUT m ρ) (half_cut s c (col s j)).1 (half_cut s c (col s j)).2).2 $$ [Ho₁ Ho₂]
  · isplitl [Ho₁] <;> iassumption
  iapply (wp_send_pts m ρ K c n (3, s, j) i hn hi hk (O512 oo oi) (O512 oo oi) sS sR hS hR (OUT m ρ) (OUT m ρ)
    (Ss := box (512 * hh s c) 512 (col s j)) (Sd := box (512 * hh s c) 512 (col s j)) hob hob (fun x => rfl) rfl rfl
    (by show ptsEx (q 3 s c) cc0_stg2_0 (box (512 * hh s (q 3 s (q 3 s c))) 512 (col s j)) = _; rw [q_q])
    (by show pts (q 3 s c) cc0_stg2_0 (box (512 * hh s (q 3 s (q 3 s c))) 512 (col s j)) _ = _; rw [q_q])) $$ [Ho HO Hr]
  · isplitr; · iexact Hrec
    isplitl [Ho]; · iexact Ho
    isplitl [HO] <;> iassumption
  iintro ⟨HO, Hf⟩
  iapply Hk
  isplitl [HO]; · iexact HO
  isplitl [Hscr]; · iexact Hscr
  isplitl [Hcl0]; · iexact Hcl0
  isplitl [Hcl1]; · iexact Hcl1
  isplitl [Hcl] <;> iassumption

/-! ## The last waits -/

/-- After phase 3's waits, the block of the result is complete. -/
theorem step4 (K : Dev nD × CIx → ℕ) (c : Dev nD) (s j : Fin 2) {wo wi}
    (wS wR : DmaSem sig) (hwS : wS = sendS (3, s, j)) (hwR : wR = recvS (3, s, j))
    {w₁ w₂ w₃ w₄} {α : Type} {Q : α → sProp 𝕄} {kt : PUnit → Prog (TpuEff nD τ sig (Elt F) Λ₀ .tc) α} :
    iprop(records m ρ K ∗ levAts L lv ∗ debt c 16 ∗ F3 c s j)
      ⊢ iprop(((debt c 16 ∗ E m ρ c s j) -∗ WP c (kt ⟨⟩) Q)
        -∗ WP c (.op (.waitDma2 wS (O512 wo wi) (O512 wo wi) w₁ w₂) fun _ => .op (.waitDma2 wR (O512 wo wi) (O512 wo wi) w₃ w₄) kt) Q) := by
  unfold F3 E
  iintro ⟨#Hrec, #Hlev, HO, Hscr, Hcl0, Hcl1, Hcl2, Hf⟩ Hk
  iapply (wp_wait_item m ρ K c (3, s, j) 16 (show (3 : ℕ) < 16 / 4 by decide) (O512 wo wi) (O512 wo wi) (O512 wo wi) (O512 wo wi) wS wR hwS hwR rfl rfl) $$ [HO Hf]
  · isplitr; · iexact Hrec
    isplitr; · iexact Hlev
    isplitl [HO] <;> iassumption
  iintro ⟨HO, Hsrc, Hdst, Hcl⟩
  ihave Ho₁ := (Entails.of_eq (show source m ρ c (3, s, j) = pts c cc0_stg2_0 (box (512 * hh s c) 512 (col s j)) (OUT m ρ) from rfl)) $$ Hsrc
  ihave Ho₂ := (Entails.of_eq (show landed m ρ c (3, s, j) = pts c cc0_stg2_0 (box (512 * (1 - hh s c)) 512 (col s j)) (OUT m ρ) by
    rw [← hh_q3]; rfl)) $$ Hdst
  iapply Hk
  isplitl [HO]; · iexact HO
  isplitl [Hscr]; · iexact Hscr
  isplitl [Ho₁ Ho₂]
  · iapply (pts_cut (col_cut s c (col s j)).1 (col_cut s c (col s j)).2).2
    isplitl [Ho₁] <;> iassumption
  isplitl [Hcl0]; · iexact Hcl0
  isplitl [Hcl1]; · iexact Hcl1
  isplitl [Hcl2] <;> iassumption

end Cert.Exchange

end
-- ==== Proof.Regions.lean ====
/-
# `Regions`: whole buffers and their blocks

The whole buffers are cut into the four column blocks before the first step, and put together again after the last.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A family entails another, member by member. -/
theorem each {T : Type} {s : Finset T} {Φ Ψ : T → sProp 𝕄} (h : ∀ t ∈ s, Φ t ⊢ Ψ t) : bigSep s Φ ⊢ bigSep s Ψ := bigSep_mono h

/-- A column block: stream and block of the stream. -/
abbrev Blk : Type := Fin 2 × Fin 2

omit [FloatOps F] in
/-- A whole buffer is its classes, for any classification of its elements. -/
theorem pts_classes {c : Dev nD} {b : Ref sig .tc} {T : Type} [Fintype T] [DecidableEq T] (R : T → Finset (Idx ((c : Thread nD τ).loc b)))
    (cls : Idx ((c : Thread nD τ).loc b) → T) (hR : ∀ t y, y ∈ R t ↔ cls y = t) (f : Buf (Elt F) ((c : Thread nD τ).loc b)) :
    pts c b Finset.univ f = bigSep Finset.univ fun t => pts c b (R t) f := by
  classical
  have hU : (Finset.univ : Finset (Idx ((c : Thread nD τ).loc b))) = Finset.univ.biUnion R := by
    ext y; simp only [Finset.mem_univ, Finset.mem_biUnion, true_and, true_iff]; exact ⟨cls y, (hR _ y).2 rfl⟩
  unfold pts
  rw [hU]
  convert pointsTo_biUnion Finset.univ R (fun t _ t' _ h => Finset.disjoint_left.2 fun y h1 h2 => h (((hR t y).1 h1).symm.trans ((hR t' y).1 h2)))

omit [FloatOps F] in
/-- A buffer with any contents is cut into the classes of its indices, each with any contents. -/
theorem ptsEx_classes {c : Dev nD} {b : Ref sig .tc} {T : Type} [Fintype T] [DecidableEq T] (R : T → Finset (Idx ((c : Thread nD τ).loc b)))
    (cls : Idx ((c : Thread nD τ).loc b) → T) (hR : ∀ t y, y ∈ R t ↔ cls y = t) (hne : Nonempty (Buf (Elt F) ((c : Thread nD τ).loc b))) :
    ptsEx (F := F) c b Finset.univ ⊣⊢ bigSep Finset.univ fun t => ptsEx c b (R t) := by
  constructor
  · rw [show ptsEx (F := F) c b Finset.univ = iprop(∃ f, pts c b Finset.univ f) from rfl]
    iintro ⟨%f, H⟩
    ihave H := (Entails.of_eq (pts_classes R cls hR f)) $$ H
    ihave H := (each (F := F) (s := Finset.univ) (Φ := fun t => pts c b (R t) f) (Ψ := fun t => ptsEx c b (R t)) fun t _ => pts_any (F := F)) $$ H
    iexact H
  · unfold ptsEx
    iintro H
    ihave H := (Idealize.SL.BI.bigSep_exists_pi Finset.univ fun t (f : Buf (Elt F) ((c : Thread nD τ).loc b)) => pts c b (R t) f) $$ H
    icases H with ⟨%g, H⟩
    iexists (fun y => g (cls y) y)
    rw [pts_classes R cls hR]
    iapply (Entails.of_eq (bigSep_congr (s := Finset.univ) fun t _ => pts_congr (f := g t) (g := fun y => g (cls y) y) fun y hy => by rw [(hR t y).1 hy]))
    iexact H

/-- The columns of the product buffer are cut into the four blocks. -/
theorem box_class (t : Blk) (y : S1024x1024.Idx) : y ∈ box 0 1024 (col t.1 t.2) ↔ (strm (y 1), sub (y 1)) = t := by
  have h0 : (y 0 : ℕ) < 1024 := (y 0).isLt
  have h1 : (y 1 : ℕ) < 1024 := (y 1).isLt
  rw [mem_box]
  constructor
  · rintro ⟨-, h⟩; exact Prod.ext (strm_col _ _ _ h) (sub_col _ _ _ h)
  · rintro rfl
    refine ⟨⟨Nat.zero_le _, by omega⟩, ?_⟩
    show 256 * (2 * ((y 1 : ℕ) / 512 % 2) + (y 1 : ℕ) / 256 % 2) ≤ (y 1 : ℕ) ∧ (y 1 : ℕ) < 256 * (2 * ((y 1 : ℕ) / 512 % 2) + (y 1 : ℕ) / 256 % 2) + 256
    omega

/-- A buffer of four slots is cut into its slots. -/
theorem slot_class {h : ℕ} (t : Blk) (y : (⟨4, ![2, 2, h, 256]⟩ : Shape).Idx) : y ∈ slot h t.1 t.2 ↔ ((y 0, y 1) : Blk) = t := by
  rw [mem_slot]
  exact ⟨fun h => Prod.ext (Fin.ext h.1) (Fin.ext h.2), fun h => by rw [← h]; exact ⟨rfl, rfl⟩⟩

omit [FloatOps F] in
/-- A family over the exchanges is four families over the blocks. -/
theorem items (Φ : Item → sProp 𝕄) : bigSep Finset.univ Φ
    = iprop((bigSep Finset.univ fun t : Blk => Φ (0, t)) ∗ (bigSep Finset.univ fun t : Blk => Φ (1, t)) ∗ (bigSep Finset.univ fun t : Blk => Φ (2, t)) ∗ bigSep Finset.univ fun t : Blk => Φ (3, t)) := by
  rw [bigSep_univ_prod]; exact bigSep_univ_eq_bigSepL [0, 1, 2, 3] (by decide) (by decide) _

omit [FloatOps F] in
/-- A family over the blocks, one by one. -/
theorem blocks (Φ : Blk → sProp 𝕄) : bigSep Finset.univ Φ = iprop(Φ (0, 0) ∗ Φ (1, 0) ∗ Φ (0, 1) ∗ Φ (1, 1)) :=
  bigSep_univ_eq_bigSepL [(0, 0), (1, 0), (0, 1), (1, 1)] (by decide) (by decide) _

/-- The five scratch buffers, whole, with any contents. -/
def scratch (c : Dev nD) : sProp 𝕄 :=
  iprop(ptsEx c cc0_scratch0 Finset.univ ∗ ptsEx c cc0_scratch1 Finset.univ ∗ ptsEx c cc0_scratch2 Finset.univ
    ∗ ptsEx c cc0_scratch3 Finset.univ ∗ ptsEx c cc0_scratch4 Finset.univ)

/-- A block's regions the device keeps for itself. -/
def own (c : Dev nD) (t : Blk) : sProp 𝕄 :=
  iprop(ptsEx c cc0_scratch0 (box 0 1024 (col t.1 t.2)) ∗ ptsEx c cc0_scratch1 (slot 512 t.1 t.2) ∗ ptsEx c cc0_scratch3 (slot 256 t.1 t.2)
    ∗ ptsEx c cc0_stg2_0 (box (256 * qq t.1 c) 256 (col t.1 t.2)))

omit [FloatOps F] in
/-- A column block of the output: the own quarter and the two regions the partners write. -/
theorem out_cut (c : Dev nD) (t : Blk) : ptsEx (F := F) c cc0_stg2_0 (box 0 1024 (col t.1 t.2))
    ⊢ iprop(ptsEx c cc0_stg2_0 (box (256 * qq t.1 c) 256 (col t.1 t.2)) ∗ landing c (2, t) ∗ landing c (3, t)) := by
  iintro H
  ihave H := (ptsEx_cut (c := c) (b := cc0_stg2_0) (col_cut t.1 c (col t.1 t.2)).1 (col_cut t.1 c (col t.1 t.2)).2).1 $$ H
  icases H with ⟨H, H₃⟩
  ihave H := (ptsEx_cut (c := c) (b := cc0_stg2_0) (half_cut t.1 c (col t.1 t.2)).1 (half_cut t.1 c (col t.1 t.2)).2).1 $$ H
  icases H with ⟨H, H₂⟩
  isplitl [H]; · iexact H
  isplitl [H₂]
  · iapply (Entails.of_eq (show ptsEx c cc0_stg2_0 (box (256 * qq t.1 (q 2 t.1 c)) 256 (col t.1 t.2)) = landing (F := F) c (2, t) from rfl)); iexact H₂
  iapply (Entails.of_eq (show ptsEx c cc0_stg2_0 (box (512 * (1 - hh t.1 c)) 512 (col t.1 t.2)) = landing (F := F) c (3, t) by rw [← hh_q3]; rfl))
  iexact H₃

/-- Before the first step: the buffers cut into what the device keeps and what it lends. -/
theorem prepare (c : Dev nD) : iprop(scratch (F := F) c ∗ ptsEx c cc0_stg2_0 Finset.univ)
    ⊢ iprop((bigSep Finset.univ fun k : Item => landing c k) ∗ bigSep Finset.univ fun t : Blk => own c t) := by
  unfold scratch own
  rw [items]
  simp only [bigSep_sep']
  iintro ⟨⟨H0, H1, H2, H3, H4⟩, Ho⟩
  ihave H0 := (ptsEx_classes (c := c) (b := cc0_scratch0) (fun t : Blk => box 0 1024 (col t.1 t.2)) _ box_class inferInstance).1 $$ H0
  ihave H1 := (ptsEx_classes (c := c) (b := cc0_scratch1) (fun t : Blk => slot 512 t.1 t.2) _ slot_class inferInstance).1 $$ H1
  ihave H2 := (ptsEx_classes (c := c) (b := cc0_scratch2) (fun t : Blk => slot 512 t.1 t.2) _ slot_class inferInstance).1 $$ H2
  ihave H3 := (ptsEx_classes (c := c) (b := cc0_scratch3) (fun t : Blk => slot 256 t.1 t.2) _ slot_class inferInstance).1 $$ H3
  ihave H4 := (ptsEx_classes (c := c) (b := cc0_scratch4) (fun t : Blk => slot 256 t.1 t.2) _ slot_class inferInstance).1 $$ H4
  ihave Ho := (ptsEx_classes (c := c) (b := cc0_stg2_0) (fun t : Blk => box 0 1024 (col t.1 t.2)) _ box_class inferInstance).1 $$ Ho
  ihave Ho := (each (s := Finset.univ) fun t _ => out_cut (F := F) c t) $$ Ho
  simp only [bigSep_sep']
  icases Ho with ⟨Ho, Ho2, Ho3⟩
  isplitl [H2 H4 Ho2 Ho3]
  · isplitl [H2]; · iexact H2
    isplitl [H4]; · iexact H4
    isplitl [Ho2] <;> iassumption
  isplitl [H0]; · iexact H0
  isplitl [H1]; · iexact H1
  isplitl [H3] <;> iassumption

/-- After the last step: the whole buffers again, the output holding the result, every exchange's cells closed. -/
theorem gather (c : Dev nD) : (bigSep Finset.univ fun t : Blk => E m ρ c t.1 t.2)
    ⊢ iprop(scratch (F := F) c ∗ pts c cc0_stg2_0 Finset.univ (OUT m ρ) ∗ bigSep Finset.univ fun k : Item => closed (F := F) c k) := by
  unfold E scr scratch
  rw [items]
  simp only [bigSep_sep']
  iintro ⟨⟨H0, H1, H2, H3, H4⟩, Ho, Hc⟩
  isplitl [H0 H1 H2 H3 H4]
  · isplitl [H0]
    · iapply (ptsEx_classes (c := c) (b := cc0_scratch0) (fun t : Blk => box 0 1024 (col t.1 t.2)) _ box_class inferInstance).2; iexact H0
    isplitl [H1]
    · iapply (ptsEx_classes (c := c) (b := cc0_scratch1) (fun t : Blk => slot 512 t.1 t.2) _ slot_class inferInstance).2; iexact H1
    isplitl [H2]
    · iapply (ptsEx_classes (c := c) (b := cc0_scratch2) (fun t : Blk => slot 512 t.1 t.2) _ slot_class inferInstance).2; iexact H2
    isplitl [H3]
    · iapply (ptsEx_classes (c := c) (b := cc0_scratch3) (fun t : Blk => slot 256 t.1 t.2) _ slot_class inferInstance).2; iexact H3
    iapply (ptsEx_classes (c := c) (b := cc0_scratch4) (fun t : Blk => slot 256 t.1 t.2) _ slot_class inferInstance).2; iexact H4
  isplitl [Ho]
  · rw [pts_classes (c := c) (b := cc0_stg2_0) (fun t : Blk => box 0 1024 (col t.1 t.2)) _ box_class]; iexact Ho
  iexact Hc

/-- What the device keeps and what the partners lend make the blocks' state before the first step. -/
theorem ready_all (c : Dev nD) : iprop((bigSep Finset.univ fun k : Item => toks (F := F) c k) ∗ (bigSep Finset.univ fun k : Item => landing (qk k c) k)
      ∗ bigSep Finset.univ fun t : Blk => own c t)
    ⊢ bigSep Finset.univ fun t : Blk => I (F := F) c t.1 t.2 := by
  unfold I ready own
  rw [items, items]
  simp only [bigSep_sep']
  iintro ⟨⟨T0, T1, T2, T3⟩, ⟨L0, L1, L2, L3⟩, H0, H1, H3, Ho⟩
  isplitl [H0]; · iexact H0
  isplitl [H1]; · iexact H1
  isplitl [H3]; · iexact H3
  isplitl [Ho]; · iexact Ho
  isplitl [T0 L0]; · isplitl [T0] <;> iassumption
  isplitl [T1 L1]; · isplitl [T1] <;> iassumption
  isplitl [T2 L2]; · isplitl [T2] <;> iassumption
  isplitl [T3] <;> iassumption

end Cert.Exchange

end
-- ==== Proof.Body.lean ====
/-
# `Body`: one device's run of the kernel

The barrier first: each device lends its two partners the regions they will write, and is lent theirs. Then the steps of
`Steps`, in the order of the program.
-/
module

public import proofs.«01_k».proof.Proof.Regions

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What a device starts its run with, besides its buffers: what it owes, its barrier tokens and every exchange's. -/
def startTok (c : Dev nD) : sProp 𝕄 :=
  iprop((∃ W, owes (c : Thread nD τ) (O₀ c) W) ∗ dutyTok ER (barCell (nb false c)) 0 false ∗ dutyTok ER (barCell (nb true c)) 0 true
    ∗ atPos ER (barCell c) 0 ∅ 0 ∗ cred (tallyAt (barCell c) () 2) ∗ bigSep Finset.univ fun k : Item => toks (F := F) c k)

/-- A device's regions lent out, by the partner they are lent to. -/
theorem lend (c : Dev nD) : (bigSep Finset.univ fun k : Item => landing (F := F) c k)
    = iprop(barPay (nb false c) false ∗ barPay (nb true c) true) := by
  rw [barPay_nb, barPay_nb]
  refine Eq.trans ?_ (bigSep_union (by rw [Finset.disjoint_filter]; intro k _ h; rw [h]; decide))
  congr 1
  ext k; cases h : via k <;> simp [h]

/-- The barrier: two signals and a wait, after which the device holds the regions it will write. -/
theorem wp_barrier (K : Dev nD × CIx → ℕ) (c n₁ n₂ : Dev nD) (h₁ : n₁ = nb false c) (h₂ : n₂ = nb true c)
    {α : Type} {Q : α → sProp 𝕄} {kt : PUnit → Prog (TpuEff nD τ sig (Elt F) Λ₀ .tc) α} :
    iprop(records m ρ K ∗ levAts L lv ∗ startTok (F := F) c ∗ bigSep Finset.univ fun k : Item => landing (F := F) c k)
      ⊢ iprop(((debt c 0 ∗ semVal (barCell c) 0 ∗ (bigSep Finset.univ fun k : Item => toks (F := F) c k) ∗ bigSep Finset.univ fun k : Item => landing (F := F) (qk k c) k)
            -∗ WP c (kt ⟨⟩) Q)
        -∗ WP c ((semSignalWord n₁ (SemArray.scalar (sig.barrier 0 rfl) : Sems sig S_).sem 1#32).bind fun _ =>
            (semSignalWord n₂ (SemArray.scalar (sig.barrier 0 rfl) : Sems sig S_).sem 1#32).bind fun _ =>
            (semWaitWord (SemArray.scalar (sig.barrier 0 rfl) : Sems sig S_).sem 2#32).bind kt) Q) := by
  subst h₁; subst h₂
  simp only [semSignalWord, semWaitWord, Prog.lift, Prog.bind_op, Prog.bind_ret, Prog.pure_eq_ret]
  unfold startTok debt
  rw [lend]
  iintro ⟨#Hrec, #Hlev, ⟨⟨%W, HO⟩, Ht₁, Ht₂, Hat, Hc, Hts⟩, Hp₁, Hp₂⟩ Hk
  iapply (Rounds.wp_signal 𝒱₀ ER (rd m ρ) (c : Thread nD τ) none (dst := (nb false c : Thread nD τ)) (κ := K (nb false c, .inl ()))
      (d := false) (by rw [duties_bar]; exact Finset.mem_univ _) ((amount_bar m ρ (nb false c) false).trans (by decide)) () (O₁ c) rfl) $$ [HO Ht₁ Hp₁]
  · isplitr; · iapply (inv_at m ρ K (nb false c, .inl ())); iexact Hrec
    isplitl [HO]; · iexact HO
    isplitl [Ht₁]; · iexact Ht₁
    isplitl [Hp₁]; · rw [payload_bar]; iexact Hp₁
    iapply (reached_at m ρ K (nb false c, .inl ())); iexact Hrec
  iintro HO
  unfold O₁
  iapply (Rounds.wp_signal 𝒱₀ ER (rd m ρ) (c : Thread nD τ) none (dst := (nb true c : Thread nD τ)) (κ := K (nb true c, .inl ()))
      (d := true) (by rw [duties_bar]; exact Finset.mem_univ _) ((amount_bar m ρ (nb true c) true).trans (by decide)) () (owed c 0) rfl) $$ [HO Ht₂ Hp₂]
  · isplitr; · iapply (inv_at m ρ K (nb true c, .inl ())); iexact Hrec
    isplitl [HO]; · iexact HO
    isplitl [Ht₂]; · iexact Ht₂
    isplitl [Hp₂]; · rw [payload_bar]; iexact Hp₂
    iapply (reached_at m ρ K (nb true c, .inl ())); iexact Hrec
  iintro HO
  iapply (Rounds.wp_wait_rest_token 𝒱₀ ER (rd m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (inv_at m ρ K (c, .inl ())); iexact Hrec
    isplitl [Hc]; · iexact Hc
    isplitl [HO]; · iexact HO
    isplitr; · iapply (mayWait_owed c (.reg barS) 0 1 (le_of_eq rfl) (by decide)); iexact Hlev
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (inv_at m ρ K (c, .inl ())); iexact Hrec
    iexact Hat
  iapply Hk
  isplitl [HO]; · iexists _; iexact HO
  isplitl [Hz]; · iexact Hz
  isplitl [Hts] <;> iassumption

set_option maxHeartbeats 2000000 in
/-- The run: from the device's buffers and tokens to the result, the cells closed and nothing owed. -/
theorem body_run (K : Dev nD × CIx → ℕ) (c : Dev nD) {Q : PUnit → sProp 𝕄} :
    iprop(records m ρ K ∗ levAts L lv ∗ startTok (F := F) c ∗ ops m ρ c ∗ scratch (F := F) c ∗ ptsEx c cc0_stg2_0 Finset.univ)
      ⊢ iprop(((debt c 16 ∗ semVal (barCell c) 0 ∗ ops m ρ c ∗ scratch (F := F) c ∗ pts c cc0_stg2_0 Finset.univ (OUT m ρ)
              ∗ bigSep Finset.univ fun k : Item => closed (F := F) c k) -∗ Q ⟨⟩)
        -∗ WP c (cc0_body (F := F) xM (Memref.isWhole_whole _) wM (Memref.isWhole_whole _) oM (Memref.isWhole_whole _) zM (Memref.isWhole_whole _) s1M (Memref.isWhole_whole _)
            r1M (Memref.isWhole_whole _) s2M (Memref.isWhole_whole _) r2M (Memref.isWhole_whole _) cc0_scratch5 cc0_scratch6) Q) := by
  simp only [cc0_body_eq_skeleton]
  unfold cc0_body_skel
  iintro ⟨#Hrec, #Hlev, Ht, Hops, Hscr, Ho⟩ Hk
  ihave Hp := (prepare (F := F) c) $$ [Hscr Ho]
  · isplitl [Hscr] <;> iassumption
  icases Hp with ⟨Hl, Hown⟩
  rw [k0_part1_eq_skeleton]; unfold k0_part1_skel
  simp only [Prog.lift, Prog.bind_op, Prog.bind_ret, Prog.pure_eq_ret, wp_deviceId, Prog.bind_assoc]
  iapply (wp_barrier m ρ K c _ _ (Fin.ext ((by decide +kernel : ∀ c : Dev nD, k0_dev1 c = (nb false c).val) c))
    (Fin.ext ((by decide +kernel : ∀ c : Dev nD, k0_dev2 c = (nb true c).val) c))) $$ [Ht Hl]
  · isplitr; · iexact Hrec
    isplitr; · iexact Hlev
    isplitl [Ht] <;> iassumption
  iintro ⟨HO, Hz, Hts, Hl⟩
  ihave HI := (ready_all (F := F) c) $$ [Hts Hl Hown]
  · isplitl [Hts]; · iexact Hts
    isplitl [Hl] <;> iassumption
  ihave HI := (Entails.of_eq (blocks (F := F) fun t => I c t.1 t.2)) $$ HI
  icases HI with ⟨H00, H10, H01, H11⟩
  rw [k0_part2_eq_skeleton]; unfold k0_part2_skel
  simp only [Prog.lift, Prog.bind_op, Prog.bind_ret, Prog.pure_eq_ret, Prog.bind_assoc]
  iapply (step0 m ρ K c _ 0 0 0 (by decide) rfl (Fin.ext ((by decide +kernel : ∀ c : Dev nD, k0_dev3 c = (q 0 0 c).val) c)) (xo := ![0, 0]) (wo := ![0, 0]) (zo := ![0, 0])
      (so := ![0, 0, 0, 0]) rfl rfl rfl ((by decide +kernel : ∀ c : Dev nD, k0_off1 c = ![512 * (1 - hh 0 c), col 0 0]) c) rfl
      (p₁ := k0_pay1) (p₂ := k0_pay2) (fun _ _ => rfl) (fun _ => rfl) _ _ rfl rfl) $$ [Hops HO H00]
  · isplitr; · iexact Hrec
    isplitl [Hops]; · iexact Hops
    isplitl [HO] <;> iassumption
  iintro ⟨Hops, HO, H00⟩
  rw [k0_part3_eq_skeleton]; unfold k0_part3_skel
  simp only [Prog.lift, Prog.bind_op, Prog.bind_ret, Prog.pure_eq_ret, Prog.bind_assoc]
  iapply (step0 m ρ K c _ 1 0 1 (by decide) rfl (Fin.ext ((by decide +kernel : ∀ c : Dev nD, k0_dev4 c = (q 0 1 c).val) c)) (xo := ![0, 0]) (wo := ![0, 512]) (zo := ![0, 512])
      (so := ![1, 0, 0, 0]) rfl rfl rfl ((by decide +kernel : ∀ c : Dev nD, k0_off2 c = ![512 * (1 - hh 1 c), col 1 0]) c) rfl
      (p₁ := k0_pay3) (p₂ := k0_pay4) (fun _ _ => rfl) (fun _ => rfl) _ _ rfl rfl) $$ [Hops HO H10]
  · isplitr; · iexact Hrec
    isplitl [Hops]; · iexact Hops
    isplitl [HO] <;> iassumption
  iintro ⟨Hops, HO, H10⟩
  rw [k0_part4_eq_skeleton]; unfold k0_part4_skel
  simp only [Prog.lift, Prog.bind_op, Prog.bind_ret, Prog.pure_eq_ret, Prog.bind_assoc]
  iapply (step0 m ρ K c _ 0 1 2 (by decide) rfl (Fin.ext ((by decide +kernel : ∀ c : Dev nD, k0_dev5 c = (q 0 0 c).val) c)) (xo := ![0, 0]) (wo := ![0, 256]) (zo := ![0, 256])
      (so := ![0, 1, 0, 0]) rfl rfl rfl ((by decide +kernel : ∀ c : Dev nD, k0_off3 c = ![512 * (1 - hh 0 c), col 0 1]) c) rfl
      (p₁ := k0_pay5) (p₂ := k0_pay6) (fun _ _ => rfl) (fun _ => rfl) _ _ rfl rfl) $$ [Hops HO H01]
  · isplitr; · iexact Hrec
    isplitl [Hops]; · iexact Hops
    isplitl [HO] <;> iassumption
  iintro ⟨Hops, HO, H01⟩
  rw [k0_part5_eq_skeleton]; unfold k0_part5_skel
  simp only [Prog.lift, Prog.bind_op, Prog.bind_ret, Prog.pure_eq_ret, Prog.bind_assoc]
  iapply (step0 m ρ K c _ 1 1 3 (by decide) rfl (Fin.ext ((by decide +kernel : ∀ c : Dev nD, k0_dev6 c = (q 0 1 c).val) c)) (xo := ![0, 0]) (wo := ![0, 768]) (zo := ![0, 768])
      (so := ![1, 1, 0, 0]) rfl rfl rfl ((by decide +kernel : ∀ c : Dev nD, k0_off4 c = ![512 * (1 - hh 1 c), col 1 1]) c) rfl
      (p₁ := k0_pay7) (p₂ := k0_pay8) (fun _ _ => rfl) (fun _ => rfl) _ _ rfl rfl) $$ [Hops HO H11]
  · isplitr; · iexact Hrec
    isplitl [Hops]; · iexact Hops
    isplitl [HO] <;> iassumption
  iintro ⟨Hops, HO, H11⟩
  rw [k0_part6_eq_skeleton]; unfold k0_part6_skel
  rw [k0_part7_eq_skeleton]; unfold k0_part7_skel
  simp only [Prog.lift, Prog.bind_op, Prog.bind_ret, Prog.pure_eq_ret, Prog.bind_assoc]
  iapply (step1 m ρ K c _ 0 0 4 (by decide) (by decide) rfl (Fin.ext ((by decide +kernel : ∀ c : Dev nD, k0_dev7 c = (q 1 0 c).val) c)) (so := ![0, 0, 0, 0])
      ((by decide +kernel : ∀ c : Dev nD, k0_off5 c = ![512 * hh 0 c, col 0 0]) c) ((by decide +kernel : ∀ c : Dev nD, k0_off6 c = ![256 * qq 0 (q 1 0 c), col 0 0]) c) rfl
      (p₁ := fun a b => k0_pay10 (k0_pay9 a b)) (p₂ := k0_pay11) (fun _ _ => rfl) (fun _ => rfl) _ _ rfl rfl _ _ rfl rfl) $$ [HO H00]
  · isplitr; · iexact Hrec
    isplitr; · iexact Hlev
    isplitl [HO] <;> iassumption
  iintro ⟨HO, H00⟩
  rw [k0_part8_eq_skeleton]; unfold k0_part8_skel
  rw [k0_part9_eq_skeleton]; unfold k0_part9_skel
  simp only [Prog.lift, Prog.bind_op, Prog.bind_ret, Prog.pure_eq_ret, Prog.bind_assoc]
  iapply (step1 m ρ K c _ 1 0 5 (by decide) (by decide) rfl (Fin.ext ((by decide +kernel : ∀ c : Dev nD, k0_dev8 c = (q 1 1 c).val) c)) (so := ![1, 0, 0, 0])
      ((by decide +kernel : ∀ c : Dev nD, k0_off7 c = ![512 * hh 1 c, col 1 0]) c) ((by decide +kernel : ∀ c : Dev nD, k0_off8 c = ![256 * qq 1 (q 1 1 c), col 1 0]) c) rfl
      (p₁ := k0_pay12) (p₂ := fun a => k0_pay14 (k0_pay13 a)) (fun _ _ => rfl) (fun _ => rfl) _ _ rfl rfl _ _ rfl rfl) $$ [HO H10]
  · isplitr; · iexact Hrec
    isplitr; · iexact Hlev
    isplitl [HO] <;> iassumption
  iintro ⟨HO, H10⟩
  rw [k0_part10_eq_skeleton]; unfold k0_part10_skel
  rw [k0_part11_eq_skeleton]; unfold k0_part11_skel
  simp only [Prog.lift, Prog.bind_op, Prog.bind_ret, Prog.pure_eq_ret, Prog.bind_assoc]
  iapply (step1 m ρ K c _ 0 1 6 (by decide) (by decide) rfl (Fin.ext ((by decide +kernel : ∀ c : Dev nD, k0_dev9 c = (q 1 0 c).val) c)) (so := ![0, 1, 0, 0])
      ((by decide +kernel : ∀ c : Dev nD, k0_off9 c = ![512 * hh 0 c, col 0 1]) c) ((by decide +kernel : ∀ c : Dev nD, k0_off10 c = ![256 * qq 0 (q 1 0 c), col 0 1]) c) rfl
      (p₁ := k0_pay15) (p₂ := k0_pay16) (fun _ _ => rfl) (fun _ => rfl) _ _ rfl rfl _ _ rfl rfl) $$ [HO H01]
  · isplitr; · iexact Hrec
    isplitr; · iexact Hlev
    isplitl [HO] <;> iassumption
  iintro ⟨HO, H01⟩
  rw [k0_part12_eq_skeleton]; unfold k0_part12_skel
  rw [k0_part13_eq_skeleton]; unfold k0_part13_skel
  simp only [Prog.lift, Prog.bind_op, Prog.bind_ret, Prog.pure_eq_ret, Prog.bind_assoc]
  iapply (step1 m ρ K c _ 1 1 7 (by decide) (by decide) rfl (Fin.ext ((by decide +kernel : ∀ c : Dev nD, k0_dev10 c = (q 1 1 c).val) c)) (so := ![1, 1, 0, 0])
      ((by decide +kernel : ∀ c : Dev nD, k0_off11 c = ![512 * hh 1 c, col 1 1]) c) ((by decide +kernel : ∀ c : Dev nD, k0_off12 c = ![256 * qq 1 (q 1 1 c), col 1 1]) c) rfl
      (p₁ := k0_pay17) (p₂ := k0_pay18) (fun _ _ => rfl) (fun _ => rfl) _ _ rfl rfl _ _ rfl rfl) $$ [HO H11]
  · isplitr; · iexact Hrec
    isplitr; · iexact Hlev
    isplitl [HO] <;> iassumption
  iintro ⟨HO, H11⟩
  rw [k0_part14_eq_skeleton]; unfold k0_part14_skel
  simp only [Prog.lift, Prog.bind_op, Prog.bind_ret, Prog.pure_eq_ret, Prog.bind_assoc]
  iapply (step2 m ρ K c _ 0 0 8 (by decide) (by decide) rfl (Fin.ext ((by decide +kernel : ∀ c : Dev nD, k0_dev11 c = (q 2 0 c).val) c)) (so := ![0, 0, 0, 0])
      ((by decide +kernel : ∀ c : Dev nD, k0_off13 c = ![256 * qq 0 c, col 0 0]) c) ((by decide +kernel : ∀ c : Dev nD, k0_off14 c = ![256 * qq 0 c, col 0 0]) c) rfl
      (p₁ := k0_pay19) (fun _ _ => rfl) _ _ rfl rfl _ _ rfl rfl) $$ [HO H00]
  · isplitr; · iexact Hrec
    isplitr; · iexact Hlev
    isplitl [HO] <;> iassumption
  iintro ⟨HO, H00⟩
  rw [k0_part15_eq_skeleton]; unfold k0_part15_skel
  rw [k0_part16_eq_skeleton]; unfold k0_part16_skel
  simp only [Prog.lift, Prog.bind_op, Prog.bind_ret, Prog.pure_eq_ret, Prog.bind_assoc]
  iapply (step2 m ρ K c _ 1 0 9 (by decide) (by decide) rfl (Fin.ext ((by decide +kernel : ∀ c : Dev nD, k0_dev12 c = (q 2 1 c).val) c)) (so := ![1, 0, 0, 0])
      ((by decide +kernel : ∀ c : Dev nD, k0_off15 c = ![256 * qq 1 c, col 1 0]) c) ((by decide +kernel : ∀ c : Dev nD, k0_off16 c = ![256 * qq 1 c, col 1 0]) c) rfl
      (p₁ := k0_pay20) (fun _ _ => rfl) _ _ rfl rfl _ _ rfl rfl) $$ [HO H10]
  · isplitr; · iexact Hrec
    isplitr; · iexact Hlev
    isplitl [HO] <;> iassumption
  iintro ⟨HO, H10⟩
  rw [k0_part17_eq_skeleton]; unfold k0_part17_skel
  simp only [Prog.lift, Prog.bind_op, Prog.bind_ret, Prog.pure_eq_ret, Prog.bind_assoc]
  iapply (step2 m ρ K c _ 0 1 10 (by decide) (by decide) rfl (Fin.ext ((by decide +kernel : ∀ c : Dev nD, k0_dev13 c = (q 2 0 c).val) c)) (so := ![0, 1, 0, 0])
      ((by decide +kernel : ∀ c : Dev nD, k0_off17 c = ![256 * qq 0 c, col 0 1]) c) ((by decide +kernel : ∀ c : Dev nD, k0_off18 c = ![256 * qq 0 c, col 0 1]) c) rfl
      (p₁ := k0_pay21) (fun _ _ => rfl) _ _ rfl rfl _ _ rfl rfl) $$ [HO H01]
  · isplitr; · iexact Hrec
    isplitr; · iexact Hlev
    isplitl [HO] <;> iassumption
  iintro ⟨HO, H01⟩
  rw [k0_part18_eq_skeleton]; unfold k0_part18_skel
  simp only [Prog.lift, Prog.bind_op, Prog.bind_ret, Prog.pure_eq_ret, Prog.bind_assoc]
  iapply (step2 m ρ K c _ 1 1 11 (by decide) (by decide) rfl (Fin.ext ((by decide +kernel : ∀ c : Dev nD, k0_dev14 c = (q 2 1 c).val) c)) (so := ![1, 1, 0, 0])
      ((by decide +kernel : ∀ c : Dev nD, k0_off19 c = ![256 * qq 1 c, col 1 1]) c) ((by decide +kernel : ∀ c : Dev nD, k0_off20 c = ![256 * qq 1 c, col 1 1]) c) rfl
      (p₁ := k0_pay22) (fun _ _ => rfl) _ _ rfl rfl _ _ rfl rfl) $$ [HO H11]
  · isplitr; · iexact Hrec
    isplitr; · iexact Hlev
    isplitl [HO] <;> iassumption
  iintro ⟨HO, H11⟩
  rw [k0_part19_eq_skeleton]; unfold k0_part19_skel
  simp only [Prog.lift, Prog.bind_op, Prog.bind_ret, Prog.pure_eq_ret, Prog.bind_assoc]
  iapply (step3 m ρ K c _ 0 0 12 (by decide) (by decide) rfl (Fin.ext ((by decide +kernel : ∀ c : Dev nD, k0_dev15 c = (q 3 0 c).val) c))
      ((by decide +kernel : ∀ c : Dev nD, k0_off21 c = ![512 * hh 0 c, col 0 0]) c) _ _ rfl rfl _ _ rfl rfl) $$ [HO H00]
  · isplitr; · iexact Hrec
    isplitr; · iexact Hlev
    isplitl [HO] <;> iassumption
  iintro ⟨HO, H00⟩
  rw [k0_part20_eq_skeleton]; unfold k0_part20_skel
  simp only [Prog.lift, Prog.bind_op, Prog.bind_ret, Prog.pure_eq_ret, Prog.bind_assoc]
  iapply (step3 m ρ K c _ 1 0 13 (by decide) (by decide) rfl (Fin.ext ((by decide +kernel : ∀ c : Dev nD, k0_dev16 c = (q 3 1 c).val) c))
      ((by decide +kernel : ∀ c : Dev nD, k0_off22 c = ![512 * hh 1 c, col 1 0]) c) _ _ rfl rfl _ _ rfl rfl) $$ [HO H10]
  · isplitr; · iexact Hrec
    isplitr; · iexact Hlev
    isplitl [HO] <;> iassumption
  iintro ⟨HO, H10⟩
  rw [k0_part21_eq_skeleton]; unfold k0_part21_skel
  simp only [Prog.lift, Prog.bind_op, Prog.bind_ret, Prog.pure_eq_ret, Prog.bind_assoc]
  iapply (step3 m ρ K c _ 0 1 14 (by decide) (by decide) rfl (Fin.ext ((by decide +kernel : ∀ c : Dev nD, k0_dev17 c = (q 3 0 c).val) c))
      ((by decide +kernel : ∀ c : Dev nD, k0_off23 c = ![512 * hh 0 c, col 0 1]) c) _ _ rfl rfl _ _ rfl rfl) $$ [HO H01]
  · isplitr; · iexact Hrec
    isplitr; · iexact Hlev
    isplitl [HO] <;> iassumption
  iintro ⟨HO, H01⟩
  rw [k0_part22_eq_skeleton]; unfold k0_part22_skel
  simp only [Prog.lift, Prog.bind_op, Prog.bind_ret, Prog.pure_eq_ret, Prog.bind_assoc]
  iapply (step3 m ρ K c _ 1 1 15 (by decide) (by decide) rfl (Fin.ext ((by decide +kernel : ∀ c : Dev nD, k0_dev18 c = (q 3 1 c).val) c))
      ((by decide +kernel : ∀ c : Dev nD, k0_off24 c = ![512 * hh 1 c, col 1 1]) c) _ _ rfl rfl _ _ rfl rfl) $$ [HO H11]
  · isplitr; · iexact Hrec
    isplitr; · iexact Hlev
    isplitl [HO] <;> iassumption
  iintro ⟨HO, H11⟩
  iapply (step4 m ρ K c 0 0 _ _ rfl rfl) $$ [HO H00]
  · isplitr; · iexact Hrec
    isplitr; · iexact Hlev
    isplitl [HO] <;> iassumption
  iintro ⟨HO, H00⟩
  rw [k0_part23_eq_skeleton]; unfold k0_part23_skel
  simp only [Prog.lift, Prog.bind_op, Prog.bind_ret, Prog.pure_eq_ret, Prog.bind_assoc]
  iapply (step4 m ρ K c 1 0 _ _ rfl rfl) $$ [HO H10]
  · isplitr; · iexact Hrec
    isplitr; · iexact Hlev
    isplitl [HO] <;> iassumption
  iintro ⟨HO, H10⟩
  iapply (step4 m ρ K c 0 1 _ _ rfl rfl) $$ [HO H01]
  · isplitr; · iexact Hrec
    isplitr; · iexact Hlev
    isplitl [HO] <;> iassumption
  iintro ⟨HO, H01⟩
  iapply (step4 m ρ K c 1 1 _ _ rfl rfl) $$ [HO H11]
  · isplitr; · iexact Hrec
    isplitr; · iexact Hlev
    isplitl [HO] <;> iassumption
  iintro ⟨HO, H11⟩
  unfold WP; rw [wp_ret]; imodintro
  ihave HE := (Entails.of_eq (blocks (F := F) fun t => E m ρ c t.1 t.2).symm) $$ [H00 H10 H01 H11]
  · isplitl [H00]; · iexact H00
    isplitl [H10]; · iexact H10
    isplitl [H01] <;> iassumption
  ihave HE := (gather m ρ c) $$ HE
  icases HE with ⟨Hscr, Ho, Hcl⟩
  iapply Hk
  isplitl [HO]; · iexact HO
  isplitl [Hz]; · iexact Hz
  isplitl [Hops]; · iexact Hops
  isplitl [Hscr]; · iexact Hscr
  isplitl [Ho] <;> iassumption

end Cert.Exchange

end
-- ==== Proof.Launch.lean ====
/-
# `Launch`: what the launch deals each device

The semaphore counters of every device become the exchanges' cells, each with its invariant; the duty tokens are dealt to
the device that pays them, and the launch's credit to the device that waits for it.
-/
module

public import proofs.«01_k».proof.Proof.Body
public import Idealize.ShloMosaic.Lib.Memref

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores: a send (`false`) and a receive (`true`) semaphore for every exchange. -/
abbrev osem (x : Bool × Item) : SemLoc sig := csem (.inr x)

/-- The kernel's own semaphores are distinct and none is the pipeline's. -/
theorem ownSemFacts : Pipeline.OwnSemFacts cfg0.spec osem := by decide +kernel

/-- Different cells of a device have different semaphores. -/
theorem csem_injective : Function.Injective csem := by
  have hv (b : Bool) (k : Item) : (if b then recvS k else sendS k).val = (if b then 19 else 3) + num k := by cases b <;> rfl
  rintro (_ | ⟨b, k⟩) (_ | ⟨b', k'⟩) h
  · rfl
  · cases h
  · cases h
  · have h1 : (if b then recvS k else sendS k) = if b' then recvS k' else sendS k' := by injection h
    have h2 := congrArg Fin.val h1
    rw [hv, hv] at h2
    have h3 := num_lt k
    have h4 := num_lt k'
    have h5 : b = b' ∧ num k = num k' := by
      cases b <;> cases b' <;> simp only [Bool.false_eq_true, if_true, if_false, true_and, false_and, reduceCtorEq] at h2 ⊢ <;> omega
    rw [h5.1, ← itemOf_num k, h5.2, itemOf_num]

/-- Different names name different cells. -/
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of every device. -/
def allCells : Finset (GSem nD τ sig) := Finset.univ.map ⟨kcell, kcell_injective⟩

/-- A device's duties: two at its barrier cell, one at each other cell. -/
abbrev TIx : Type := Bool ⊕ (Bool × Item)
/-- The cell, round and duty named by a device and one of its duties. -/
def tokOf (ct : Dev nD × TIx) : GSem nD τ sig × ℕ × Bool := match ct.2 with
  | .inl d => (kcell (ct.1, .inl ()), 0, d)
  | .inr x => (kcell (ct.1, .inr x), 0, false)
/-- Different names name different duties. -/
theorem tokOf_injective : Function.Injective (tokOf : Dev nD × TIx → GSem nD τ sig × ℕ × Bool) := by
  rintro ⟨c, t⟩ ⟨c', t'⟩ h
  rcases t with d | x <;> rcases t' with d' | x' <;> unfold tokOf at h <;> injection h with h1 h2 <;> injection h2 with h2 h3 <;>
    have h4 := kcell_injective h1 <;> injection h4 with h4 h5 <;> try change c = c' at h4
  · rw [h4, h3]
  · cases h5
  · cases h5
  · injection h5 with h5; rw [h4, h5]

/-- Every duty at every cell. -/
def allToks : Finset (GSem nD τ sig × ℕ × Bool) := Finset.univ.map ⟨tokOf, tokOf_injective⟩

/-- The launch element: the pipeline's part and the exchange's part. -/
def u₀ : UU :=
  (initOf (Pipeline.cells cfgs cellOf_inj) (Pipeline.launchToks cfgs cellOf_inj), initOf allCells allToks)

/-- The duties at device `c`'s own cells. -/
def minted (c : Dev nD) : sProp 𝕄 :=
  iprop(dutyTok ER (barCell c) 0 false ∗ dutyTok ER (barCell c) 0 true
    ∗ (bigSep Finset.univ fun k : Item => dutyTok ER (sendCell c k) 0 false) ∗ bigSep Finset.univ fun k : Item => dutyTok ER (recvCell c k) 0 false)

/-- The duties device `c` pays. -/
def duesOf (c : Dev nD) : sProp 𝕄 :=
  iprop(dutyTok ER (barCell (nb false c)) 0 false ∗ dutyTok ER (barCell (nb true c)) 0 true
    ∗ (bigSep Finset.univ fun k : Item => dutyTok ER (sendCell c k) 0 false) ∗ bigSep Finset.univ fun k : Item => dutyTok ER (recvCell (qk k c) k) 0 false)

/-- Device `c`'s positions at its own cells. -/
def places (c : Dev nD) : sProp 𝕄 := bigSep Finset.univ fun k : CIx => atPos ER (kcell (c, k)) 0 ∅ 0

/-- What the launch element deals device `c`. -/
def G (c : Dev nD) : sProp 𝕄 :=
  iprop((bigSep Finset.univ fun k : CIx => roundState ER (rd m ρ) (kcell (c, k)) 0)
    ∗ places c ∗ (bigSep Finset.univ fun k : CIx => reached ER (kcell (c, k)) 0) ∗ minted c)

/-- What the device has once all cells are made. -/
def G' (c : Dev nD) : sProp 𝕄 := iprop(∃ K, records m ρ K ∗ places c ∗ duesOf c)

omit [FloatOps F] in
/-- A family over the two truth values is its two members. -/
theorem two (Φ : Bool → sProp 𝕄) : bigSep Finset.univ Φ = iprop(Φ false ∗ Φ true) := bigSep_univ_eq_bigSepL [false, true] (by decide) (by decide) Φ

omit [FloatOps F] in
/-- Over a device's cells: its barrier cell, its send cells, its receive cells. -/
theorem over_cells (Φ : CIx → sProp 𝕄) : bigSep Finset.univ Φ
    = iprop(Φ (.inl ()) ∗ (bigSep Finset.univ fun k : Item => Φ (.inr (false, k))) ∗ bigSep Finset.univ fun k : Item => Φ (.inr (true, k))) := by
  rw [bigSep_univ_sum, bigSep_univ_of_subsingleton, bigSep_univ_prod, two]
  rfl

/-- All the duties, device by device. -/
theorem minted_all : bigSep allToks (fun x => (dutyTok ER x.1 x.2.1 x.2.2 : sProp 𝕄)) = bigSep Finset.univ fun c : Dev nD => minted (F := F) c := by
  unfold allToks
  rw [bigSep_map, bigSep_univ_prod]
  refine bigSep_congr fun c _ => ?_
  rw [bigSep_univ_sum, bigSep_univ_prod, two, two]
  unfold minted
  exact Idealize.SL.BI.equiv_iff.mp ⟨Idealize.SL.BI.sep_assoc, Idealize.SL.BI.sep_assoc'⟩

/-- The launch element deals every device its part. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq (minted_all (F := F))) $$ Htok
  unfold G places; simp only [bigSep_sep']
  isplitl [Hst]; · iexact Hst
  isplitl [Hat]; · iexact Hat
  isplitl [Hr] <;> iassumption

/-! ## The semaphores -/

/-- The kernel's own semaphores at zero are every exchange's two. -/
theorem ownSems0_eq (c : Dev nD) : (Pipeline.ownSems0 (Ix := Unit) (Name := ℕ) (U := UU) (Lvl := ℕ) (Val := Elt F) (τ := τ) osem c : sProp 𝕄)
    = iprop((bigSep Finset.univ fun k : Item => semVal (sendCell c k) 0) ∗ bigSep Finset.univ fun k : Item => semVal (recvCell c k) 0) := by
  unfold Pipeline.ownSems0
  rw [bigSep_univ_prod, two]; rfl
/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All semaphores of a device at zero give all its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, over_cells]
  iintro ⟨⟨HS, HV⟩, HB⟩
  isplitl [HB]; · iexact HB
  isplitl [HS]; · iexact HS
  iexact HV

/-- One device's cells, each under an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (rd m ρ) κ (kcell (c, k))))
          ∗ places c ∗ (bigSep Finset.univ fun k : CIx => reached ER (kcell (c, k)) 0) ∗ minted c) := by
  unfold G
  iintro ⟨Hos, Hus, Hst, Hat, Hr, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (rd m ρ) (kcell (c, k)) 0)
      ⊢ (|={Set.univ}=> bigSep Finset.univ fun k : CIx => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Going to a partner, as a permutation of the devices. -/
def nbE (d : Bool) : Dev nD ≃ Dev nD := ⟨nb d, nb d, nb_nb d, nb_nb d⟩
/-- Going to the partner in exchange `k`, as a permutation of the devices. -/
def qkE (k : Item) : Dev nD ≃ Dev nD := ⟨qk k, qk k, q_q k.1 k.2.1, q_q k.1 k.2.1⟩

/-- The duties dealt to the partners that pay them. -/
theorem toks_around : (bigSep Finset.univ fun c : Dev nD => (minted c : sProp 𝕄)) = bigSep Finset.univ fun c : Dev nD => duesOf c := by
  have hr : (bigSep Finset.univ fun c : Dev nD => bigSep Finset.univ fun k : Item => (dutyTok ER (recvCell c k) 0 false : sProp 𝕄))
      = bigSep Finset.univ fun c : Dev nD => bigSep Finset.univ fun k : Item => dutyTok ER (recvCell (qk k c) k) 0 false := by
    rw [bigSep_univ_comm, bigSep_univ_comm (fun (c : Dev nD) (k : Item) => (dutyTok ER (recvCell (qk k c) k) 0 false : sProp 𝕄))]
    exact bigSep_congr fun k _ => bigSep_univ_equiv (qkE k) fun c : Dev nD => (dutyTok ER (recvCell c k) 0 false : sProp 𝕄)
  unfold minted duesOf
  rw [bigSep_sep', bigSep_sep', bigSep_sep', bigSep_sep', bigSep_sep', bigSep_sep', hr,
    bigSep_univ_equiv (nbE false) (fun c : Dev nD => (dutyTok ER (barCell c) 0 false : sProp 𝕄)),
    bigSep_univ_equiv (nbE true) (fun c : Dev nD => (dutyTok ER (barCell c) 0 true : sProp 𝕄))]
  rfl

/-- From every device's cells and tokens: each device knows every cell and holds what it pays. -/
theorem regroup :
    (bigSep Finset.univ fun c : Dev nD => iprop((bigSep Finset.univ fun k : CIx => iprop(∃ κ : ℕ, cellInv ER (rd m ρ) κ (kcell (c, k))))
          ∗ places c ∗ (bigSep Finset.univ fun k : CIx => reached ER (kcell (c, k)) 0) ∗ minted c) : sProp 𝕄)
      ⊢ bigSep Finset.univ (G' m ρ) := by
  rw [bigSep_sep', bigSep_sep', bigSep_sep', ← bigSep_univ_prod (fun ck : Dev nD × CIx => iprop(∃ κ : ℕ, cellInv ER (rd m ρ) κ (kcell ck))),
    ← bigSep_univ_prod (fun ck : Dev nD × CIx => (reached ER (kcell ck) 0 : sProp 𝕄)), toks_around]
  iintro ⟨HI, Hat, #HR, Htok⟩
  ihave HK := (Idealize.SL.BI.bigSep_exists_pi Finset.univ (fun (ck : Dev nD × CIx) (κ : ℕ) => (cellInv ER (rd m ρ) κ (kcell ck) : sProp 𝕄))) $$ HI
  icases HK with ⟨%K, #HI⟩
  have hG : (bigSep Finset.univ fun c : Dev nD => iprop(records m ρ K ∗ places (F := F) c ∗ duesOf c)) ⊢ bigSep Finset.univ (G' m ρ) :=
    each fun c _ => by unfold G'; iintro H; iexists K; iexact H
  iapply hG
  simp only [bigSep_sep']
  isplitr
  · iapply (Idealize.SL.BI.bigSep_of_persistent (Finset.univ : Finset (Dev nD)) (records m ρ K))
    unfold records; isplitl; · iexact HI
    iexact HR
  isplitl [Hat] <;> iassumption

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- The place exchange `k` has in the program. -/
def place (k : Item) : ℕ := 4 * k.1.val + 2 * k.2.2.val + k.2.1.val
/-- There are sixteen places. -/
theorem place_lt (k : Item) : place k < 16 := by revert k; decide
/-- The exchange at the place of `k` is `k`. -/
theorem ord_place (k : Item) : ord (place k) = k := by revert k; decide
/-- The place of the exchange at place `i` is `i`. -/
theorem place_ord (i : ℕ) (h : i < 16) : place (ord i) = i := by
  unfold place ord
  show 4 * (i / 4 % 4) + 2 * (i / 2 % 2) + i % 2 = i
  omega

/-- Barrier cells are the same when the devices are. -/
theorem bar_iff {a b : Dev nD} : barCell a = barCell b ↔ a = b :=
  ⟨fun h => congrArg (fun g : GSem nD τ sig => g.1.1) h, fun h => h ▸ rfl⟩
/-- Receive cells are the same when the devices and the exchanges are. -/
theorem recv_iff {a b : Dev nD} {k l : Item} : recvCell a k = recvCell b l ↔ a = b ∧ k = l := by
  constructor
  · intro h
    have h' := kcell_injective (show kcell (a, .inr (true, k)) = kcell (b, .inr (true, l)) from h)
    injection h' with h1 h2
    injection h2 with h2
    injection h2 with _ h3
    exact ⟨h1, h3⟩
  · rintro ⟨rfl, rfl⟩; rfl
/-- A barrier cell is not a receive cell. -/
theorem bar_ne_recv (a b : Dev nD) (k : Item) : barCell a ≠ recvCell b k := fun h => by cases congrArg Prod.snd h

/-- What device `d` owes device `c`'s barrier cell: a unit if they are partners. -/
theorem owed_bar (d c : Dev nD) : O₀ d (barCell c) () = (if d = nb true c then 1 else 0) + (if d = nb false c then 1 else 0) := by
  have h0 : owed d 0 (barCell c) () = 0 := by
    by_contra h
    obtain ⟨i, -, -, hi⟩ := owed_pos (Nat.pos_of_ne_zero h)
    exact bar_ne_recv _ _ _ hi
  have hb (b : Bool) : (barCell c = barCell (nb b d) ∧ () = ()) ↔ d = nb b c := by
    rw [bar_iff]; exact ⟨fun h => by rw [h.1, nb_nb], fun h => ⟨by rw [h, nb_nb], rfl⟩⟩
  unfold O₀ O₁
  rw [Pi.add_apply, Finsupp.add_apply, Pi.add_apply, Finsupp.add_apply, tallyAt_apply, tallyAt_apply, h0, Nat.zero_add]
  exact congrArg₂ (· + ·) (if_congr (hb true) rfl rfl) (if_congr (hb false) rfl rfl)

/-- What device `d` owes device `c`'s receive cell of exchange `k`: the copy's units if they are its partners. -/
theorem owed_recv (d c : Dev nD) (k : Item) : O₀ d (recvCell c k) () = if d = qk k c then units k.1 else 0 := by
  unfold O₀ O₁
  rw [Pi.add_apply, Finsupp.add_apply, Pi.add_apply, Finsupp.add_apply, tallyAt_ne_cell (fun h => bar_ne_recv _ _ _ h.symm),
    tallyAt_ne_cell (fun h => bar_ne_recv _ _ _ h.symm), Finsupp.zero_apply, Nat.add_zero, Nat.add_zero]
  unfold owed
  rw [Finset.sum_apply, Finsupp.finset_sum_apply, Finset.sum_eq_single_of_mem (place k) (Finset.mem_Ico.mpr ⟨Nat.zero_le _, place_lt k⟩)
    (fun i hi hne => by
      rw [tallyAt_apply]
      refine if_neg fun h => hne ?_
      rw [(recv_iff.mp h.1).2, place_ord i (Finset.mem_Ico.mp hi).2])]
  rw [ord_place, tallyAt_apply]
  refine if_congr ?_ rfl rfl
  rw [recv_iff]
  exact ⟨fun h => by rw [h.1.1]; exact (q_q _ _ _).symm, fun h => ⟨⟨by rw [h]; exact (q_q _ _ _).symm, rfl⟩, rfl⟩⟩

/-- The launch credit at a barrier cell is two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]

/-- The launch credit at a receive cell is the units of its copy. -/
theorem launch_recv (c : Dev nD) (k : Item) :
    tallyOn (recvCell c k) (launchCredit (Pipeline.owing O₀) 0 (recvCell c k)) = (tallyAt (recvCell c k) () (units k.1) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (qk k c) fun _ => units k.1,
    if_pos (Finset.mem_univ _)]

/-- A device's credit at launch: its partners' two signals and every copy it receives. -/
theorem creds (c : Dev nD) :
    (Pipeline.launchCred O₀ c : sProp 𝕄) ⊢ iprop(cred (tallyAt (barCell c) () 2) ∗ bigSep Finset.univ fun k : Item => cred (tallyAt (recvCell c k) () (units k.1))) := by
  unfold Pipeline.launchCred
  rw [bigSep_univ_at _ (SemLoc.reg barS), launch_bar]
  refine sep_mono_right ?_
  have hinj : Function.Injective fun k : Item => csem (.inr (true, k)) := fun a b h => by
    have := csem_injective h; injection this with this; injection this
  refine Idealize.SL.BI.Entails.trans (bigSep_subset (t := Finset.univ.map ⟨fun k : Item => csem (.inr (true, k)), hinj⟩) ?_) ?_
  · intro x hx
    obtain ⟨k, -, rfl⟩ := Finset.mem_map.mp hx
    exact Finset.mem_erase.mpr ⟨(fun h => by cases h), Finset.mem_univ _⟩
  · rw [bigSep_map]
    exact Entails.of_eq (bigSep_congr fun k _ => congrArg cred (launch_recv c k))

end Cert.Exchange

end
-- ==== Proof.Run.lean ====
/-
# `Run`: the whole program

Every execution of the program from any memory with zero counters ends; then the arguments hold what they held, the
result array of every device holds `OUT`, and every counter is zero. Stated over any float values.
-/
module

public import proofs.«01_k».proof.Proof.Launch
public import Idealize.ShloMosaic.Lib.Pipeline.CollectiveSegs
public import Idealize.ShloMosaic.Lib.Pipeline.ValueKit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one pipeline -/

/-- What a device starts from, besides its buffers and its debt. -/
def start (c : Dev nD) : sProp 𝕄 :=
  iprop(G' m ρ c ∗ cred (tallyAt (barCell c) () 2) ∗ (bigSep Finset.univ fun k : Item => cred (tallyAt (recvCell c k) () (units k.1))) ∗ levAts L lv)

/-- Before the body: the start and the scratch buffers, holding anything. -/
def Φ₀ (c : Dev nD) : sProp 𝕄 := iprop(start m ρ c ∗ scratch c)
/-- After it: the scratch buffers and every counter at zero. -/
def Φ₁ (c : Dev nD) : sProp 𝕄 := iprop(scratch c ∗ semVal (barCell c) 0 ∗ bigSep Finset.univ fun k : Item => closed c k)

/-- The data of the run: what the windows hold after the body, what is kept and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wC m ρ c
    | ⟨2, _⟩ => OUT m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Every window is held in full. -/
theorem share_eq (c : Dev nD) (w : Fin cfg0.W) : (dats m ρ 0 c).share w = fullShare := by unfold Dat.share; split <;> rfl

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A staging buffer owned at `X` is all of it holding `X`. -/
theorem stg_eq (c : Dev nD) (b : Ref sig .tc) (X : b.ty.Contents (Elt F)) : stg c b X ⊢ pts c b Finset.univ X := by
  unfold stg pts
  iintro ⟨%f, %hf, H⟩
  subst hf
  iexact H
omit [FloatOps F] in
/-- A whole staged buffer with contents `X`, in the form the pipeline uses. -/
theorem stg_intro (c : Dev nD) (b : Ref sig .tc) (X : b.ty.Contents (Elt F)) : pts c b Finset.univ X ⊢ stg c b X := by
  unfold stg pts
  iintro H
  iexists X
  isplitr; · (ipureintro; rfl)
  iexact H

/-- What the body starts from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body ends with. -/
def bodyPost (c : Dev nD) : sProp 𝕄 :=
  iprop(Φ₁ c ∗ (dats m ρ 0 c).owesAt () t0_0.succ ∗ stg c cc0_stg0_0 (xC m ρ c) ∗ stg c cc0_stg1_0 (wC m ρ c) ∗ stg c cc0_stg2_0 (OUT m ρ))

/-- Before the body, the first window holds the device's block of `x`. -/
theorem before_x (c : Dev nD) (d) : (dats m ρ 0 c).before (0 : Fin 3) t0_0 d = xC m ρ c := by
  unfold Dat.before; rw [if_pos (fetch0_0 t0_0)]; rfl
/-- Before the body, the second window holds the device's block of `w_mat`. -/
theorem before_w (c : Dev nD) (d) : (dats m ρ 0 c).before (1 : Fin 3) t0_0 d = wC m ρ c := by
  unfold Dat.before; rw [if_pos (fetch0_1 t0_0)]; rfl

/-- Each exchange's tokens, from the duties, the positions and the credit. -/
theorem toks_of (c : Dev nD) :
    iprop(places (F := F) c ∗ duesOf c ∗ cred (tallyAt (barCell c) () 2) ∗ bigSep Finset.univ fun k : Item => cred (tallyAt (recvCell c k) () (units k.1)))
      ⊢ iprop(dutyTok ER (barCell (nb false c)) 0 false ∗ dutyTok ER (barCell (nb true c)) 0 true
        ∗ atPos ER (barCell c) 0 ∅ 0 ∗ cred (tallyAt (barCell c) () 2) ∗ bigSep Finset.univ fun k : Item => toks (F := F) c k) := by
  unfold places duesOf toks
  rw [over_cells]
  simp only [bigSep_sep']
  iintro ⟨⟨Ha, HaS, HaR⟩, ⟨Ht₁, Ht₂, HtS, HtR⟩, Hc, HcR⟩
  isplitl [Ht₁]; · iexact Ht₁
  isplitl [Ht₂]; · iexact Ht₂
  isplitl [Ha]; · iexact Ha
  isplitl [Hc]; · iexact Hc
  isplitl [HtS]; · iexact HtS
  isplitl [HtR]; · iexact HtR
  isplitl [HaS]; · iexact HaS
  isplitl [HaR]; · iexact HaR
  iexact HcR

/-- One device's body, from what the pipeline hands it to what the pipeline takes back. -/
theorem sound_body (c : Dev nD) : bodyPre m ρ c ⊢ WP c (cc0_body (F := F) xM (Memref.isWhole_whole _) wM (Memref.isWhole_whole _) oM (Memref.isWhole_whole _) zM (Memref.isWhole_whole _) s1M (Memref.isWhole_whole _)
            r1M (Memref.isWhole_whole _) s2M (Memref.isWhole_whole _) r2M (Memref.isWhole_whole _) cc0_scratch5 cc0_scratch6) (fun _ => bodyPost m ρ c) := by
  unfold bodyPre Φ₀ start G'
  iintro ⟨⟨⟨⟨%K, #Hrec, Hpl, Hdu⟩, Hcb, Hcr, #Hlev⟩, Hscr⟩, Ho, ⟨%d0, H0⟩, ⟨%d1, H1⟩, ⟨%d2, H2⟩⟩
  ihave H0 := (Entails.of_eq (congrArg (stg c cc0_stg0_0) (before_x m ρ c d0))) $$ H0
  ihave H0 := (stg_eq c cc0_stg0_0 _) $$ H0
  ihave H1 := (Entails.of_eq (congrArg (stg c cc0_stg1_0) (before_w m ρ c d1))) $$ H1
  ihave H1 := (stg_eq c cc0_stg1_0 _) $$ H1
  ihave H2 := (stg_eq c cc0_stg2_0 _) $$ H2
  unfold Dat.owesAt Pipeline.owesWithin
  icases Ho with ⟨%W, %hW, HO⟩
  ihave HO := (Entails.of_eq (show (owes (c : Thread nD τ) ((dats m ρ 0 c).owed t0_0.castSucc) W : sProp 𝕄) = owes (c : Thread nD τ) (O₀ c) W from rfl)) $$ HO
  ihave Ht := (toks_of (F := F) c) $$ [Hpl Hdu Hcb Hcr]
  · isplitl [Hpl]; · iexact Hpl
    isplitl [Hdu]; · iexact Hdu
    isplitl [Hcb] <;> iassumption
  iapply (body_run m ρ K c) $$ [HO Ht H0 H1 H2 Hscr]
  · isplitr; · iexact Hrec
    isplitr; · iexact Hlev
    isplitl [HO Ht]
    · unfold startTok
      isplitl [HO]; · iexists W; iexact HO
      iexact Ht
    isplitl [H0 H1]
    · unfold ops
      isplitl [H0] <;> iassumption
    isplitl [Hscr]; · iexact Hscr
    unfold ptsEx; iexists _; iexact H2
  unfold ops
  iintro ⟨HO, Hz, ⟨H0, H1⟩, Hscr, H2, Hcl⟩
  unfold bodyPost Φ₁ debt Dat.owesAt Pipeline.owesWithin
  rw [owed_done]
  icases HO with ⟨%W', HO⟩
  isplitl [Hscr Hz Hcl]
  · isplitl [Hscr]; · iexact Hscr
    isplitl [Hz] <;> iassumption
  isplitl [HO]
  · iexists W'
    isplitr; · ipureintro; exact fun _ _ => Or.inl trivial
    iexact HO
  isplitl [H0]; · iapply (stg_intro c cc0_stg0_0 (xC m ρ c)); iexact H0
  isplitl [H1]; · iapply (stg_intro c cc0_stg1_0 (wC m ρ c)); iexact H1
  iapply (stg_intro c cc0_stg2_0 (OUT m ρ)); iexact H2

set_option maxRecDepth 40000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xM (Memref.isWhole_whole _) wM (Memref.isWhole_whole _) oM (Memref.isWhole_whole _) zM (Memref.isWhole_whole _) s1M (Memref.isWhole_whole _)
            r1M (Memref.isWhole_whole _) s2M (Memref.isWhole_whole _) r2M (Memref.isWhole_whole _) cc0_scratch5 cc0_scratch6) (fun _ => bodyPost m ρ c)
  exact sound_body m ρ c

/-! ## The launch theorem's side conditions -/

/-- What the launch gives a device makes its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- The start and the scratch buffers are what is kept before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch ptsEx pts
  iintro ⟨Hs, -, Hr⟩
  isplitl [Hs]; · iexact Hs
  iexact Hr

/-- What is kept after the body gives back every semaphore at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed scratch ptsEx pts
  rw [bigSep_sep']
  iintro ⟨Hr, HzB, Hz⟩
  isplitl [HzB]; · iexact HzB
  isplitl [Hz]; · iexact Hz
  iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` ends with. -/
def finalA (c : Dev nD) (w : Fin cfg0.W) : Buf (Elt F) ((cfg0.win w).arr.view.loc (c : Thread nD τ)) := (dats m ρ 0 c).arrAt w cfg0.N

/-- Every window's array holds what the pipeline leaves there. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution ends, in a state where every window's array holds what the pipeline leaves there and every counter is zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array of every device ends as `OUT`. -/
theorem finalA_out (c : Dev nD) : finalA m ρ c (2 : Fin 3) = OUT m ρ := by
  refine (dats m ρ 0 c).arrAt_eq_of_after_last (2 : Fin 3) t0_0 (by decide +kernel) _ fun j => ?_
  blk_simp
  rfl

/-- Every execution ends with `OUT` in every device's result array, both arguments unchanged and every counter zero. -/
theorem run_main : θ_run defs (onTc (τ := τ) (main (F := F))) (s₀ m ρ) (fun r =>
    (∀ c : Dev nD, r.2.mem ((c.tc : Thread nD τ).loc main_v1) = OUT m ρ
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 2).trans (finalA_out m ρ c),
    (h.1 c 0).trans ((dats m ρ 0 c).arrAt_in 0 rfl _), (h.1 c 1).trans ((dats m ρ 0 c).arrAt_in 1 rfl _)⟩, h.2⟩) (run_windows m ρ)

end Cert.Exchange

end
-- ==== Proof.Value.lean ====
/-
# `Value`: over the extended reals the result is the reference's

Read with exact arithmetic the result at row `a`, column `b` is the greater of zero and the sum of the four
devices' own products there; the four sums over 256 columns join into the one sum over 1024.
-/
module

public import proofs.«01_k».proof.Proof.Run
public import proofs.«01_k».proof.Proof.Gen.ReferenceIdeal.Run
public import proofs.«01_k».proof.Defs
public import Idealize.ShloMosaic.Lib.Pointwise

@[expose] public section

noncomputable section

namespace Cert.Exchange

open Cert.KernelIdeal Cert.KernelIdeal.Gen

open Idealize.ShloMosaic hiding ix2 ix4 eq_ix2
open Idealize.ShloMosaic.TcCoe
open Idealize.ShloMosaic.ValueIdx

variable (m : (ℓ : Loc nD τ sig) → Buf (Elt Ideal) ℓ) (ρ : Dev nD → PrngReg)

/-- The staged block of the first argument is the argument. -/
theorem xC_eq (c : Dev nD) : xC m ρ c = m ((c : Thread nD τ).loc main_arg0) := by
  funext y
  exact congrArg (m ((c : Thread nD τ).loc main_arg0)) (funext fun a => Fin.ext
    (Pipeline.Window.rect_emb_val_of_index_zero win0_0 t0_0 a (by fin_cases a <;> rfl) y))
/-- The staged block of the second argument is the argument. -/
theorem wC_eq (c : Dev nD) : wC m ρ c = m ((c : Thread nD τ).loc main_arg1) := by
  funext y
  exact congrArg (m ((c : Thread nD τ).loc main_arg1)) (funext fun a => Fin.ext
    (Pipeline.Window.rect_emb_val_of_index_zero win0_1 t0_0 a (by fin_cases a <;> rfl) y))

/-! ## The payloads at an index -/

/-- A column block of a device's product, at an index: the sum over its 256 columns of `x`. -/
theorem pay1_apply (a : Vec Ideal S1024x256 .bf16) (b : Vec Ideal S256x256 .bf16) (i : Fin 1024) (j : Fin 256) :
    k0_pay1 a b (ix2 i j) = ∑ k : Fin 256, a (ix2 i k) * b (ix2 k j) := by
  pointwise [k0_pay1]; simp only [ix2_eq_valueIdx]

/-- A sent half is the half, element by element: rounding is the identity here. -/
theorem pay2_apply (a : Vec Ideal S512x256 .f32) (i : Fin 512) (j : Fin 256) :
    k0_pay2 a (ix4 0 0 i j) = a (ix2 i j) := by
  pointwise [k0_pay2]; rw [ix2_eq_valueIdx]

/-- So is a sent quarter. -/
theorem pay11_apply (a : Vec Ideal S256x256 .f32) (i : Fin 256) (j : Fin 256) :
    k0_pay11 a (ix4 0 0 i j) = a (ix2 i j) := by
  pointwise [k0_pay11]; rw [ix2_eq_valueIdx]

/-- A kept half with a received one added, at an index. -/
theorem pay12_apply (a : Vec Ideal S512x256 .f32) (b : Vec Ideal S1x1x512x256 .bf16) (i : Fin 512) (j : Fin 256) :
    k0_pay12 a b (ix2 i j) = a (ix2 i j) + b (ix4 0 0 i j) := by
  pointwise [k0_pay12]; rw [ix4_eq_valueIdx]

/-- A finished quarter, at an index: the sum of the held and the received, not below zero. -/
theorem pay19_apply (a : Vec Ideal S256x256 .f32) (b : Vec Ideal S1x1x256x256 .bf16) (i : Fin 256) (j : Fin 256) :
    k0_pay19 a b (ix2 i j) = max (a (ix2 i j) + b (ix4 0 0 i j)) 0 := by
  pointwise [k0_pay19]; rw [ix4_eq_valueIdx]

/-! ## The contents at an index -/

/-- The index built from an index's own coordinates is that index. -/
theorem at2_self {a b : ℕ} (y : S1024x1024.Idx) (ha : a = (y 0 : ℕ)) (hb : b = (y 1 : ℕ)) : at2 a b = y := by
  subst ha hb
  rw [eq_ix2 y]
  unfold at2
  congr 1
  · exact Fin.ext (Nat.mod_eq_of_lt (y 0).isLt)
  · exact Fin.ext (Nat.mod_eq_of_lt (y 1).isLt)

/-- A column is its block's first column plus its place in the block. -/
theorem col_self (b : ℕ) (hb : b < 1024) : col (strm b) (sub b) + b % 256 = b := by
  unfold col strm sub; dsimp only; omega

/-- Device `c`'s own product. -/
theorem D_apply (c : Dev nD) (X : S1024x256.Idx → EReal) (W : S256x1024.Idx → EReal) (hX : m ((c : Thread nD τ).loc main_arg0) = X)
    (hW : m ((c : Thread nD τ).loc main_arg1) = W) (y : S1024x1024.Idx) :
    D m ρ c y = ∑ k : Fin 256, X (ix2 (y 0) k) * W (ix2 k (y 1)) := by
  unfold D
  refine (pay1_apply _ _ _ _).trans ?_
  rw [xC_eq, wC_eq, hX, hW]
  refine Finset.sum_congr rfl fun k _ => ?_
  congr 2
  unfold wblk
  congr 2
  have h1 : (y 1 : ℕ) < 1024 := (y 1).isLt
  have := col_self (y 1) h1
  apply Fin.ext
  show (col (strm (y 1)) (sub (y 1)) + (y 1 : ℕ) % 256) % 1024 = (y 1 : ℕ)
  omega

/-- In the half of the rows that device `c` keeps, after the first exchange: its own product plus its partner's. -/
theorem Z_apply (c : Dev nD) (y : S1024x1024.Idx) (hy : (y 0 : ℕ) / 512 = hh (strm (y 1)) c) :
    (Z m ρ c y : EReal) = D m ρ c y + D m ρ (q 0 (strm (y 1)) c) y := by
  have h0 : (y 0 : ℕ) < 1024 := (y 0).isLt
  have h1 : (y 1 : ℕ) < 1024 := (y 1).isLt
  have hc := col_self (y 1) h1
  have hl := hh_lt (strm (y 1)) c
  unfold Z
  rw [pay12_apply]
  unfold slotOf B1 A1
  rw [pay2_apply]
  unfold blk
  rw [at2_self y (by show 512 * hh (strm (y 1)) c + (y 0 : ℕ) % 512 = _; omega) hc]
  rw [at2_self y (by show 512 * (1 - hh (strm (y 1)) (q 0 (strm (y 1)) c)) + (y 0 : ℕ) % 512 = _; rw [hh_q0]; omega) hc]

/-- The finished result: the greater of zero and the sum of the four devices' products. -/
theorem OUT_apply (y : S1024x1024.Idx) : (OUT m ρ y : EReal) = max (∑ c : Dev nD, (D m ρ c y : EReal)) 0 := by
  have h0 : (y 0 : ℕ) < 1024 := (y 0).isLt
  have h1 : (y 1 : ℕ) < 1024 := (y 1).isLt
  have hc := col_self (y 1) h1
  unfold OUT
  generalize ho : ow (strm (y 1)) ⟨(y 0 : ℕ) / 256 % 4, Nat.mod_lt _ (by decide)⟩ = o
  have hq : qq (strm (y 1)) o = (y 0 : ℕ) / 256 := by
    have key : ∀ (s : Fin 2) (t : Fin 4), qq s (ow s t) = t := by decide
    rw [← ho, key]; show (y 0 : ℕ) / 256 % 4 = _; omega
  have hh2 := qq_half (strm (y 1)) o
  rw [pay19_apply]
  unfold slotOf B2 A2
  rw [pay11_apply]
  unfold blk
  rw [at2_self y (by show 256 * ((y 0 : ℕ) / 256) + (y 0 : ℕ) % 256 = _; omega) hc]
  rw [at2_self y (by show 256 * qq (strm (y 1)) (q 1 (strm (y 1)) (q 1 (strm (y 1)) o)) + (y 0 : ℕ) % 256 = _; rw [q_q, hq]; omega) hc]
  show max ((Z m ρ o y : EReal) + Z m ρ (q 1 (strm (y 1)) o) y) 0 = _
  rw [Z_apply m ρ o y (by omega), Z_apply m ρ (q 1 (strm (y 1)) o) y (by rw [hh_q1]; omega)]
  congr 1
  have key : ∀ (s : Fin 2) (o : Fin 4), (Finset.univ : Finset (Fin 4)) = {o, q 0 s o, q 1 s o, q 0 s (q 1 s o)}
      ∧ o ∉ ({q 0 s o, q 1 s o, q 0 s (q 1 s o)} : Finset (Fin 4)) ∧ q 0 s o ∉ ({q 1 s o, q 0 s (q 1 s o)} : Finset (Fin 4))
      ∧ q 1 s o ∉ ({q 0 s (q 1 s o)} : Finset (Fin 4)) := by decide
  obtain ⟨e, n1, n2, n3⟩ := key (strm (y 1)) o
  show _ = Finset.sum (Finset.univ : Finset (Fin 4)) _
  rw [e, Finset.sum_insert n1, Finset.sum_insert n2, Finset.sum_insert n3, Finset.sum_singleton]
  exact add_assoc _ _ _

/-- From the blocks of two whole matrices the result is the reference's: the product of the two, not below zero. -/
theorem OUT_eq (X W : (⟨2, ![1024, 1024]⟩ : Shape).Idx → EReal)
    (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = Layout.block ⟨2, ![256, 1024]⟩ ⟨2, ![1024, 1024]⟩ 0 4 c W) (y : S1024x1024.Idx) :
    (OUT m ρ y : EReal) = max (∑ k : Fin 1024, X (ix2 (y 0) k) * W (ix2 k (y 1))) 0 := by
  rw [OUT_apply]
  congr 1
  refine Eq.trans ?_ (Fin.sum_univ_tiles 4 256 rfl _).symm
  refine Finset.sum_congr rfl fun c _ => ?_
  rw [D_apply m ρ c _ _ (hX c) (hW c)]
  refine Finset.sum_congr rfl fun k _ => ?_
  rw [Layout.block_apply, Layout.block_apply]
  congr 2
  · funext a; fin_cases a <;> rfl
  · funext a; fin_cases a <;> rfl

/-- The reference's result from its two arguments. -/
def refOf (X W : FVec Ideal Cert.ReferenceIdeal.S1024x1024 .bf16) : FVec Ideal Cert.ReferenceIdeal.S1024x1024 .bf16 :=
  truncf .bf16 (maximumf (extf .f32 (truncf .bf16 (Host.dotGeneral Cert.ReferenceIdeal.dot_S1024x1024_S1024x1024_S1024x1024_1_0_0_1_n_n none X W)
    Cert.ReferenceIdeal.Gen.bitsLt_bf16_f32) Cert.ReferenceIdeal.Gen.bitsLt_bf16_f32)
    (broadcastInDim Cert.ReferenceIdeal.S1024x1024 ![] Cert.ReferenceIdeal.Gen.bcast_S_S1024x1024 (constant Cert.ReferenceIdeal.S_ .f32 0x00000000#32)))
    Cert.ReferenceIdeal.Gen.bitsLt_bf16_f32

/-- The reference's result at an index. -/
theorem ref_apply (X W : FVec Ideal Cert.ReferenceIdeal.S1024x1024 .bf16) (i j : Fin 1024) :
    refOf X W (ix2 i j) = max (∑ k : Fin 1024, X (ix2 i k) * W (ix2 k j)) 0 := by
  pointwise [refOf]; simp only [ix2_eq_valueIdx]

/-- The kernel's result is the reference's. -/
theorem OUT_eq_ref (X W : FVec Ideal Cert.ReferenceIdeal.S1024x1024 .bf16)
    (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = Layout.block ⟨2, ![256, 1024]⟩ ⟨2, ![1024, 1024]⟩ 0 4 c W) :
    OUT m ρ = refOf X W := by
  funext y
  obtain ⟨a, b, rfl⟩ : ∃ a b, y = ix2 a b := ⟨_, _, eq_ix2 y⟩
  exact (OUT_eq m ρ X W hX hW _).trans (ref_apply X W a b).symm

end Cert.Exchange

end
-- ==== Proof.lean ====
/-
# The claims

The run of the kernel (`Run`) gives the three claims on termination; its result over the extended reals (`Value`)
and the run of the reference give the claim on the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two printed forms of the kernel's body table are one. -/
theorem defs₀_same (F : FTy → Type) [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- So are the tables with the pipeline's own labels. -/
theorem defs_same (F : FTy → Type) [FloatOps F] : Cert.Kernel.defs (F := F) = Cert.KernelIdeal.defs (F := F) :=
  congrArg (Pipeline.defs Cert.KernelIdeal.pcfgs) (defs₀_same F)

/-- The kernel as compiled runs to its end, its arguments unchanged, every counter zero again. -/
theorem frame_kernel : Cert.quiescent_Kernel (hKernel := Cert.Kernel.Gen.facts) := fun m ρ _ => by
  refine (congrArg (fun D => (θ_run D _ _) _) (defs_same Bits)).mpr ?_
  exact (θ_run Cert.KernelIdeal.defs _ _).mono (fun _ h => ⟨fun c => (h.1 c).2, h.2⟩) (Cert.Exchange.run_main (F := Bits) m ρ)

/-- So does the kernel read with exact arithmetic. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Exchange.run_main (F := Ideal) m ρ)

/-- The reference runs to its end, its arguments unchanged; it has no counter. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel's result, with exact arithmetic, is the reference's. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.Exchange.refOf _ _,
    (θ_run Cert.KernelIdeal.defs _ _).mono (fun _ h c => ⟨((h.1 c).1).trans
      (Cert.Exchange.OUT_eq_ref m ρ _ _ (fun c => (hm c).1) (fun c => (hm c).2)), (h.1 c).2⟩) (Cert.Exchange.run_main (F := Ideal) m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_ideal, frame_ref, trivial, value⟩

end Cert.Proof

end
